-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v17) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite_scores.lean ====
abbrev S2x4112x18432 : Shape := ⟨3, ![2, 4112, 18432]⟩
abbrev S16x15x31 : Shape := ⟨3, ![16, 15, 31]⟩
abbrev S16x16 : Shape := ⟨2, ![16, 16]⟩
abbrev S2x4112x4096 : Shape := ⟨3, ![2, 4112, 4096]⟩
abbrev S_ : Shape := ⟨0, ![]⟩

class Facts : Prop where
  slices_S2x4112x18432_S2x4112x4096_0_0_0 : S2x4112x18432.Slices ![0, 0, 0] S2x4112x4096
  bcast_S_S2x4112x4096 : S_.BroadcastsInDim S2x4112x4096 (![] : Fin 0 → Fin S2x4112x4096.rank)
  bcast_S_S16x15x31 : S_.BroadcastsInDim S16x15x31 (![] : Fin 0 → Fin S16x15x31.rank)
  bcast_S_S16x16 : S_.BroadcastsInDim S16x16 (![] : Fin 0 → Fin S16x16.rank)

variable [Facts]

def fn {F : FTy → Type} [FloatOps F] (main_arg0 : FVec F S2x4112x18432 .f32) (main_arg1 : FVec F S16x15x31 .f32) (main_arg2 : FVec F S16x16 .f32) : IVec S2x4112x4096 1 × IVec S16x15x31 1 × IVec S16x16 1 :=
  let main_v0 : FVec F S2x4112x4096 .f32 := (extractStridedSlice S2x4112x4096 ![0, 0, 0] · slices_S2x4112x18432_S2x4112x4096_0_0_0) main_arg0
  let main_v1 : FVec F S2x4112x4096 .f32 := Host.absf main_v0
  let main_cst : FVec F S_ .f32 := constant S_ .f32 0x7F800000#32
  let main_v2 : FVec F S2x4112x4096 .f32 := broadcastInDim S2x4112x4096 ![] bcast_S_S2x4112x4096 main_cst
  let main_v3 : IVec S2x4112x4096 1 := cmpf .olt main_v1 main_v2
  let main_v4 : FVec F S16x15x31 .f32 := Host.absf main_arg1
  let main_cst_0 : FVec F S_ .f32 := constant S_ .f32 0x7F800000#32
  let main_v5 : FVec F S16x15x31 .f32 := broadcastInDim S16x15x31 ![] bcast_S_S16x15x31 main_cst_0
  let main_v6 : IVec S16x15x31 1 := cmpf .olt main_v4 main_v5
  let main_v7 : FVec F S16x16 .f32 := Host.absf main_arg2
  let main_cst_1 : FVec F S_ .f32 := constant S_ .f32 0x7F800000#32
  let main_v8 : FVec F S16x16 .f32 := broadcastInDim S16x16 ![] bcast_S_S16x16 main_cst_1
  let main_v9 : IVec S16x16 1 := cmpf .olt main_v7 main_v8
  (main_v3, main_v6, main_v9)
-- ==== Kernel.lean ====
abbrev S2x4112x18432 : Shape := ⟨3, ![2, 4112, 18432]⟩
abbrev S16x15x31 : Shape := ⟨3, ![16, 15, 31]⟩
abbrev S16x16 : Shape := ⟨2, ![16, 16]⟩
abbrev S_ : Shape := ⟨0, ![]⟩
abbrev S2x4160x18432 : Shape := ⟨3, ![2, 4160, 18432]⟩
abbrev S64 : Shape := ⟨1, ![64]⟩
abbrev S1x64 : Shape := ⟨2, ![1, 64]⟩
abbrev S64x1 : Shape := ⟨2, ![64, 1]⟩
abbrev S64x64 : Shape := ⟨2, ![64, 64]⟩
abbrev S1x64x64 : Shape := ⟨3, ![1, 64, 64]⟩
abbrev S31 : Shape := ⟨1, ![31]⟩
abbrev S31x1x1 : Shape := ⟨3, ![31, 1, 1]⟩
abbrev S31x64x64 : Shape := ⟨3, ![31, 64, 64]⟩
abbrev S16x15x64x64 : Shape := ⟨4, ![16, 15, 64, 64]⟩
abbrev S1x1x64x64 : Shape := ⟨4, ![1, 1, 64, 64]⟩
abbrev S16x14x64x64 : Shape := ⟨4, ![16, 14, 64, 64]⟩
abbrev S16x14x64x128 : Shape := ⟨4, ![16, 14, 64, 128]⟩
abbrev S16x1x16 : Shape := ⟨3, ![16, 1, 16]⟩
abbrev S2x4160x2048 : Shape := ⟨3, ![2, 4160, 2048]⟩
abbrev S1x4160x128 : Shape := ⟨3, ![1, 4160, 128]⟩
abbrev S1x14x64x128 : Shape := ⟨4, ![1, 14, 64, 128]⟩
abbrev S1x1x16 : Shape := ⟨3, ![1, 1, 16]⟩
abbrev S1x16x128 : Shape := ⟨3, ![1, 16, 128]⟩
abbrev S16x128 : Shape := ⟨2, ![16, 128]⟩
abbrev S1x16 : Shape := ⟨2, ![1, 16]⟩
abbrev S48x128 : Shape := ⟨2, ![48, 128]⟩
abbrev S1x48x128 : Shape := ⟨3, ![1, 48, 128]⟩
abbrev S16 : Shape := ⟨1, ![16]⟩
abbrev S16x1 : Shape := ⟨2, ![16, 1]⟩
abbrev S1x64x128 : Shape := ⟨3, ![1, 64, 128]⟩
abbrev S64x128 : Shape := ⟨2, ![64, 128]⟩
abbrev S1x512x128 : Shape := ⟨3, ![1, 512, 128]⟩
abbrev S512x128 : Shape := ⟨2, ![512, 128]⟩
abbrev S64x512 : Shape := ⟨2, ![64, 512]⟩
abbrev S64x16 : Shape := ⟨2, ![64, 16]⟩
abbrev S1x1x64x128 : Shape := ⟨4, ![1, 1, 64, 128]⟩

abbrev nBuf : Space → Nat
  | .hbm => 70
  | .vmem => 12
  | .smem => 0
  | _ => 0

abbrev bufTy : (tb : Table) → Fin (tcTables nBuf tb) → BufTy
  | .hbm, ⟨0, _⟩ => ⟨S2x4112x18432, .f32⟩
  | .hbm, ⟨1, _⟩ => ⟨S16x15x31, .f32⟩
  | .hbm, ⟨2, _⟩ => ⟨S16x16, .f32⟩
  | .hbm, ⟨3, _⟩ => ⟨S_, .i32⟩
  | .hbm, ⟨4, _⟩ => ⟨S_, .f32⟩
  | .hbm, ⟨5, _⟩ => ⟨S2x4160x18432, .f32⟩
  | .hbm, ⟨6, _⟩ => ⟨S64, .i32⟩
  | .hbm, ⟨7, _⟩ => ⟨S_, .i32⟩
  | .hbm, ⟨8, _⟩ => ⟨S64, .i32⟩
  | .hbm, ⟨9, _⟩ => ⟨S64, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S64, .i32⟩
  | .hbm, ⟨14, _⟩ => ⟨S64, .i32⟩
  | .hbm, ⟨15, _⟩ => ⟨S_, .i32⟩
  | .hbm, ⟨16, _⟩ => ⟨S64, .i32⟩
  | .hbm, ⟨17, _⟩ => ⟨S64, .i32⟩
  | .hbm, ⟨18, _⟩ => ⟨S1x64, .i32⟩
  | .hbm, ⟨19, _⟩ => ⟨S64x1, .i32⟩
  | .hbm, ⟨20, _⟩ => ⟨S64x64, .i32⟩
  | .hbm, ⟨21, _⟩ => ⟨S64x64, .i32⟩
  | .hbm, ⟨22, _⟩ => ⟨S64x64, .i1⟩
  | .hbm, ⟨23, _⟩ => ⟨S1x64, .i32⟩
  | .hbm, ⟨24, _⟩ => ⟨S64x1, .i32⟩
  | .hbm, ⟨25, _⟩ => ⟨S_, .i32⟩
  | .hbm, ⟨26, _⟩ => ⟨S64x1, .i32⟩
  | .hbm, ⟨27, _⟩ => ⟨S64x1, .i32⟩
  | .hbm, ⟨28, _⟩ => ⟨S64x64, .i32⟩
  | .hbm, ⟨29, _⟩ => ⟨S64x64, .i32⟩
  | .hbm, ⟨30, _⟩ => ⟨S64x64, .i1⟩
  | .hbm, ⟨31, _⟩ => ⟨S64x64, .i1⟩
  | .hbm, ⟨32, _⟩ => ⟨S1x64, .i32⟩
  | .hbm, ⟨33, _⟩ => ⟨S64x1, .i32⟩
  | .hbm, ⟨34, _⟩ => ⟨S64x64, .i32⟩
  | .hbm, ⟨35, _⟩ => ⟨S64x64, .i32⟩
  | .hbm, ⟨36, _⟩ => ⟨S64x64, .i32⟩
  | .hbm, ⟨37, _⟩ => ⟨S_, .i32⟩
  | .hbm, ⟨38, _⟩ => ⟨S64x64, .i32⟩
  | .hbm, ⟨39, _⟩ => ⟨S64x64, .i32⟩
  | .hbm, ⟨40, _⟩ => ⟨S_, .i32⟩
  | .hbm, ⟨41, _⟩ => ⟨S64x64, .i32⟩
  | .hbm, ⟨42, _⟩ => ⟨S64x64, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S64x64, .i32⟩
  | .hbm, ⟨47, _⟩ => ⟨S64x64, .i32⟩
  | .hbm, ⟨48, _⟩ => ⟨S_, .i32⟩
  | .hbm, ⟨49, _⟩ => ⟨S64x64, .i32⟩
  | .hbm, ⟨50, _⟩ => ⟨S64x64, .i32⟩
  | .hbm, ⟨51, _⟩ => ⟨S1x64x64, .i32⟩
  | .hbm, ⟨52, _⟩ => ⟨S31, .i32⟩
  | .hbm, ⟨53, _⟩ => ⟨S31x1x1, .i32⟩
  | .hbm, ⟨54, _⟩ => ⟨S31x64x64, .i32⟩
  | .hbm, ⟨55, _⟩ => ⟨S31x64x64, .i32⟩
  | .hbm, ⟨56, _⟩ => ⟨S31x64x64, .i1⟩
  | .hbm, ⟨57, _⟩ => ⟨S31x64x64, .f32⟩
  | .hbm, ⟨58, _⟩ => ⟨S16x15x64x64, .f32⟩
  | .hbm, ⟨59, _⟩ => ⟨S1x1x64x64, .i1⟩
  | .hbm, ⟨60, _⟩ => ⟨S_, .f32⟩
  | .hbm, ⟨61, _⟩ => ⟨S_, .f32⟩
  | .hbm, ⟨62, _⟩ => ⟨S16x15x64x64, .i1⟩
  | .hbm, ⟨63, _⟩ => ⟨S16x15x64x64, .f32⟩
  | .hbm, ⟨64, _⟩ => ⟨S16x15x64x64, .f32⟩
  | .hbm, ⟨65, _⟩ => ⟨S16x14x64x64, .f32⟩
  | .hbm, ⟨66, _⟩ => ⟨S16x14x64x64, .f32⟩
  | .hbm, ⟨67, _⟩ => ⟨S16x14x64x128, .f32⟩
  | .hbm, ⟨68, _⟩ => ⟨S16x1x16, .f32⟩
  | .hbm, ⟨69, _⟩ => ⟨S2x4160x2048, .bf16⟩
  | .local _ .vmem, ⟨0, _⟩ => ⟨S1x4160x128, .f32⟩
  | .local _ .vmem, ⟨1, _⟩ => ⟨S1x4160x128, .f32⟩
  | .local _ .vmem, ⟨2, _⟩ => ⟨S1x4160x128, .f32⟩
  | .local _ .vmem, ⟨3, _⟩ => ⟨S1x4160x128, .f32⟩
  | .local _ .vmem, ⟨4, _⟩ => ⟨S1x4160x128, .f32⟩
  | .local _ .vmem, ⟨5, _⟩ => ⟨S1x4160x128, .f32⟩
  | .local _ .vmem, ⟨6, _⟩ => ⟨S1x14x64x128, .f32⟩
  | .local _ .vmem, ⟨7, _⟩ => ⟨S1x14x64x128, .f32⟩
  | .local _ .vmem, ⟨8, _⟩ => ⟨S1x1x16, .f32⟩
  | .local _ .vmem, ⟨9, _⟩ => ⟨S1x1x16, .f32⟩
  | .local _ .vmem, ⟨10, _⟩ => ⟨S1x4160x128, .bf16⟩
  | .local _ .vmem, ⟨11, _⟩ => ⟨S1x4160x128, .bf16⟩
  | _, _ => ⟨S2x4112x18432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_c_2 : Ref sig .tc := ⟨.hbm, 11, rfl⟩
abbrev main_call1_v0 : Ref sig .tc := ⟨.hbm, 12, rfl⟩
abbrev main_call1_v1 : Ref sig .tc := ⟨.hbm, 13, rfl⟩
abbrev main_call1_v2 : Ref sig .tc := ⟨.hbm, 14, rfl⟩
abbrev main_call1_v3 : Ref sig .tc := ⟨.hbm, 15, rfl⟩
abbrev main_call1_v4 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_c_7 : Ref sig .tc := ⟨.hbm, 44, rfl⟩
abbrev main_call2_v0 : Ref sig .tc := ⟨.hbm, 45, rfl⟩
abbrev main_call2_v1 : Ref sig .tc := ⟨.hbm, 46, rfl⟩
abbrev main_call2_v2 : Ref sig .tc := ⟨.hbm, 47, rfl⟩
abbrev main_call2_v3 : Ref sig .tc := ⟨.hbm, 48, rfl⟩
abbrev main_call2_v4 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst : Ref sig .tc := ⟨.hbm, 60, rfl⟩
abbrev main_call3_v0 : Ref sig .tc := ⟨.hbm, 61, rfl⟩
abbrev main_call3_v1 : Ref sig .tc := ⟨.hbm, 62, rfl⟩
abbrev main_call3_v2 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 16], ![false, false]⟩

def k0_mult1 : BitVec 32 :=
  let c64_i32_89 : BitVec 32 := 64#32
  let c64_i32_88 : BitVec 32 := 64#32
  let c0_i32 : BitVec 32 := 0#32
  let c64_i32 : BitVec 32 := 64#32
  let v35 : BitVec 32 := Scalar.muli c0_i32 c64_i32
  let c0_i32_21 : BitVec 32 := 0#32
  let v36 : BitVec 32 := Scalar.addi v35 c0_i32_21
  let v166 : BitVec 32 := Scalar.muli c64_i32_88 v36
  let v167 : BitVec 32 := Scalar.addi c64_i32_89 v166
  v167
def k0_off1 (c0_i32_21 : BitVec 32) : Fin 3 → Nat :=
  let c0_90 : Index := 0#32
  let c64_i32_89 : BitVec 32 := 64#32
  let c64_i32_88 : BitVec 32 := 64#32
  let c0_i32 : BitVec 32 := 0#32
  let c64_i32 : BitVec 32 := 64#32
  let v35 : BitVec 32 := Scalar.muli c0_i32 c64_i32
  let v36 : BitVec 32 := Scalar.addi v35 c0_i32_21
  let v166 : BitVec 32 := Scalar.muli c64_i32_88 v36
  let v167 : BitVec 32 := Scalar.addi c64_i32_89 v166
  let v168 : BitVec 32 := v167
  let v169 : Index := Scalar.indexCast v168
  let c0_91 : Index := 0#32
  ![0, v169.toNat, 0]
def k0_mult2 : BitVec 32 :=
  let c64_i32_93 : BitVec 32 := 64#32
  let c64_i32_92 : BitVec 32 := 64#32
  let c56_i32_87 : BitVec 32 := 56#32
  let c0_i32_86 : BitVec 32 := 0#32
  let c0_i32 : BitVec 32 := 0#32
  let c64_i32 : BitVec 32 := 64#32
  let v35 : BitVec 32 := Scalar.muli c0_i32 c64_i32
  let c0_i32_21 : BitVec 32 := 0#32
  let v36 : BitVec 32 := Scalar.addi v35 c0_i32_21
  let c4_i32_85 : BitVec 32 := 4#32
  let v163 : BitVec 32 := Scalar.subi v36 c4_i32_85
  let v164 : BitVec 32 := Scalar.maxsi c0_i32_86 v163
  let v165 : BitVec 32 := Scalar.minsi c56_i32_87 v164
  let v173 : BitVec 32 := Scalar.muli c64_i32_92 v165
  let v174 : BitVec 32 := Scalar.addi c64_i32_93 v173
  v174
def k0_off2 (c0_i32_21 : BitVec 32) : Fin 3 → Nat :=
  let c0_94 : Index := 0#32
  let c64_i32_93 : BitVec 32 := 64#32
  let c64_i32_92 : BitVec 32 := 64#32
  let c56_i32_87 : BitVec 32 := 56#32
  let c0_i32_86 : BitVec 32 := 0#32
  let c0_i32 : BitVec 32 := 0#32
  let c64_i32 : BitVec 32 := 64#32
  let v35 : BitVec 32 := Scalar.muli c0_i32 c64_i32
  let v36 : BitVec 32 := Scalar.addi v35 c0_i32_21
  let c4_i32_85 : BitVec 32 := 4#32
  let v163 : BitVec 32 := Scalar.subi v36 c4_i32_85
  let v164 : BitVec 32 := Scalar.maxsi c0_i32_86 v163
  let v165 : BitVec 32 := Scalar.minsi c56_i32_87 v164
  let v173 : BitVec 32 := Scalar.muli c64_i32_92 v165
  let v174 : BitVec 32 := Scalar.addi c64_i32_93 v173
  let v175 : BitVec 32 := v174
  let v176 : Index := Scalar.indexCast v175
  let c0_95 : Index := 0#32
  ![0, v176.toNat, 0]
def k0_mult3 : BitVec 32 :=
  let c64_i32_102 : BitVec 32 := 64#32
  let c64_i32_101 : BitVec 32 := 64#32
  let c0_i32 : BitVec 32 := 0#32
  let c64_i32_22 : BitVec 32 := 64#32
  let v37 : BitVec 32 := Scalar.muli c0_i32 c64_i32_22
  let c1_i32 : BitVec 32 := 1#32
  let v38 : BitVec 32 := Scalar.addi v37 c1_i32
  let v185 : BitVec 32 := Scalar.muli c64_i32_101 v38
  let v186 : BitVec 32 := Scalar.addi c64_i32_102 v185
  v186
def k0_mult4 : BitVec 32 :=
  let c64_i32_106 : BitVec 32 := 64#32
  let c64_i32_105 : BitVec 32 := 64#32
  let c56_i32_100 : BitVec 32 := 56#32
  let c0_i32_99 : BitVec 32 := 0#32
  let c0_i32 : BitVec 32 := 0#32
  let c64_i32_22 : BitVec 32 := 64#32
  let v37 : BitVec 32 := Scalar.muli c0_i32 c64_i32_22
  let c1_i32 : BitVec 32 := 1#32
  let v38 : BitVec 32 := Scalar.addi v37 c1_i32
  let c4_i32_98 : BitVec 32 := 4#32
  let v182 : BitVec 32 := Scalar.subi v38 c4_i32_98
  let v183 : BitVec 32 := Scalar.maxsi c0_i32_99 v182
  let v184 : BitVec 32 := Scalar.minsi c56_i32_100 v183
  let v192 : BitVec 32 := Scalar.muli c64_i32_105 v184
  let v193 : BitVec 32 := Scalar.addi c64_i32_106 v192
  v193
def k0_mult5 : BitVec 32 :=
  let c64_i32_115 : BitVec 32 := 64#32
  let c64_i32_114 : BitVec 32 := 64#32
  let c0_i32 : BitVec 32 := 0#32
  let c64_i32_23 : BitVec 32 := 64#32
  let v39 : BitVec 32 := Scalar.muli c0_i32 c64_i32_23
  let c2_i32 : BitVec 32 := 2#32
  let v40 : BitVec 32 := Scalar.addi v39 c2_i32
  let v204 : BitVec 32 := Scalar.muli c64_i32_114 v40
  let v205 : BitVec 32 := Scalar.addi c64_i32_115 v204
  v205
def k0_mult6 : BitVec 32 :=
  let c64_i32_119 : BitVec 32 := 64#32
  let c64_i32_118 : BitVec 32 := 64#32
  let c56_i32_113 : BitVec 32 := 56#32
  let c0_i32_112 : BitVec 32 := 0#32
  let c0_i32 : BitVec 32 := 0#32
  let c64_i32_23 : BitVec 32 := 64#32
  let v39 : BitVec 32 := Scalar.muli c0_i32 c64_i32_23
  let c2_i32 : BitVec 32 := 2#32
  let v40 : BitVec 32 := Scalar.addi v39 c2_i32
  let c4_i32_111 : BitVec 32 := 4#32
  let v201 : BitVec 32 := Scalar.subi v40 c4_i32_111
  let v202 : BitVec 32 := Scalar.maxsi c0_i32_112 v201
  let v203 : BitVec 32 := Scalar.minsi c56_i32_113 v202
  let v211 : BitVec 32 := Scalar.muli c64_i32_118 v203
  let v212 : BitVec 32 := Scalar.addi c64_i32_119 v211
  v212
def k0_mult7 : BitVec 32 :=
  let c64_i32_128 : BitVec 32 := 64#32
  let c64_i32_127 : BitVec 32 := 64#32
  let c0_i32 : BitVec 32 := 0#32
  let c64_i32_24 : BitVec 32 := 64#32
  let v41 : BitVec 32 := Scalar.muli c0_i32 c64_i32_24
  let c3_i32 : BitVec 32 := 3#32
  let v42 : BitVec 32 := Scalar.addi v41 c3_i32
  let v223 : BitVec 32 := Scalar.muli c64_i32_127 v42
  let v224 : BitVec 32 := Scalar.addi c64_i32_128 v223
  v224
def k0_mult8 : BitVec 32 :=
  let c64_i32_132 : BitVec 32 := 64#32
  let c64_i32_131 : BitVec 32 := 64#32
  let c56_i32_126 : BitVec 32 := 56#32
  let c0_i32_125 : BitVec 32 := 0#32
  let c0_i32 : BitVec 32 := 0#32
  let c64_i32_24 : BitVec 32 := 64#32
  let v41 : BitVec 32 := Scalar.muli c0_i32 c64_i32_24
  let c3_i32 : BitVec 32 := 3#32
  let v42 : BitVec 32 := Scalar.addi v41 c3_i32
  let c4_i32_124 : BitVec 32 := 4#32
  let v220 : BitVec 32 := Scalar.subi v42 c4_i32_124
  let v221 : BitVec 32 := Scalar.maxsi c0_i32_125 v220
  let v222 : BitVec 32 := Scalar.minsi c56_i32_126 v221
  let v230 : BitVec 32 := Scalar.muli c64_i32_131 v222
  let v231 : BitVec 32 := Scalar.addi c64_i32_132 v230
  v231
def k0_mult9 : BitVec 32 :=
  let c64_i32_141 : BitVec 32 := 64#32
  let c64_i32_140 : BitVec 32 := 64#32
  let c0_i32 : BitVec 32 := 0#32
  let c64_i32_25 : BitVec 32 := 64#32
  let v43 : BitVec 32 := Scalar.muli c0_i32 c64_i32_25
  let c4_i32 : BitVec 32 := 4#32
  let v44 : BitVec 32 := Scalar.addi v43 c4_i32
  let v242 : BitVec 32 := Scalar.muli c64_i32_140 v44
  let v243 : BitVec 32 := Scalar.addi c64_i32_141 v242
  v243
def k0_mult10 : BitVec 32 :=
  let c64_i32_145 : BitVec 32 := 64#32
  let c64_i32_144 : BitVec 32 := 64#32
  let c56_i32_139 : BitVec 32 := 56#32
  let c0_i32_138 : BitVec 32 := 0#32
  let c0_i32 : BitVec 32 := 0#32
  let c64_i32_25 : BitVec 32 := 64#32
  let v43 : BitVec 32 := Scalar.muli c0_i32 c64_i32_25
  let c4_i32 : BitVec 32 := 4#32
  let v44 : BitVec 32 := Scalar.addi v43 c4_i32
  let c4_i32_137 : BitVec 32 := 4#32
  let v239 : BitVec 32 := Scalar.subi v44 c4_i32_137
  let v240 : BitVec 32 := Scalar.maxsi c0_i32_138 v239
  let v241 : BitVec 32 := Scalar.minsi c56_i32_139 v240
  let v249 : BitVec 32 := Scalar.muli c64_i32_144 v241
  let v250 : BitVec 32 := Scalar.addi c64_i32_145 v249
  v250
def k0_mult11 : BitVec 32 :=
  let c64_i32_154 : BitVec 32 := 64#32
  let c64_i32_153 : BitVec 32 := 64#32
  let c0_i32 : BitVec 32 := 0#32
  let c64_i32_26 : BitVec 32 := 64#32
  let v45 : BitVec 32 := Scalar.muli c0_i32 c64_i32_26
  let c5_i32 : BitVec 32 := 5#32
  let v46 : BitVec 32 := Scalar.addi v45 c5_i32
  let v261 : BitVec 32 := Scalar.muli c64_i32_153 v46
  let v262 : BitVec 32 := Scalar.addi c64_i32_154 v261
  v262
def k0_mult12 : BitVec 32 :=
  let c64_i32_158 : BitVec 32 := 64#32
  let c64_i32_157 : BitVec 32 := 64#32
  let c56_i32_152 : BitVec 32 := 56#32
  let c0_i32_151 : BitVec 32 := 0#32
  let c0_i32 : BitVec 32 := 0#32
  let c64_i32_26 : BitVec 32 := 64#32
  let v45 : BitVec 32 := Scalar.muli c0_i32 c64_i32_26
  let c5_i32 : BitVec 32 := 5#32
  let v46 : BitVec 32 := Scalar.addi v45 c5_i32
  let c4_i32_150 : BitVec 32 := 4#32
  let v258 : BitVec 32 := Scalar.subi v46 c4_i32_150
  let v259 : BitVec 32 := Scalar.maxsi c0_i32_151 v258
  let v260 : BitVec 32 := Scalar.minsi c56_i32_152 v259
  let v268 : BitVec 32 := Scalar.muli c64_i32_157 v260
  let v269 : BitVec 32 := Scalar.addi c64_i32_158 v268
  v269
def k0_mult13 : BitVec 32 :=
  let c64_i32_167 : BitVec 32 := 64#32
  let c64_i32_166 : BitVec 32 := 64#32
  let c0_i32 : BitVec 32 := 0#32
  let c64_i32_27 : BitVec 32 := 64#32
  let v47 : BitVec 32 := Scalar.muli c0_i32 c64_i32_27
  let c6_i32 : BitVec 32 := 6#32
  let v48 : BitVec 32 := Scalar.addi v47 c6_i32
  let v280 : BitVec 32 := Scalar.muli c64_i32_166 v48
  let v281 : BitVec 32 := Scalar.addi c64_i32_167 v280
  v281
def k0_mult14 : BitVec 32 :=
  let c64_i32_171 : BitVec 32 := 64#32
  let c64_i32_170 : BitVec 32 := 64#32
  let c56_i32_165 : BitVec 32 := 56#32
  let c0_i32_164 : BitVec 32 := 0#32
  let c0_i32 : BitVec 32 := 0#32
  let c64_i32_27 : BitVec 32 := 64#32
  let v47 : BitVec 32 := Scalar.muli c0_i32 c64_i32_27
  let c6_i32 : BitVec 32 := 6#32
  let v48 : BitVec 32 := Scalar.addi v47 c6_i32
  let c4_i32_163 : BitVec 32 := 4#32
  let v277 : BitVec 32 := Scalar.subi v48 c4_i32_163
  let v278 : BitVec 32 := Scalar.maxsi c0_i32_164 v277
  let v279 : BitVec 32 := Scalar.minsi c56_i32_165 v278
  let v287 : BitVec 32 := Scalar.muli c64_i32_170 v279
  let v288 : BitVec 32 := Scalar.addi c64_i32_171 v287
  v288
def k0_mult15 : BitVec 32 :=
  let c64_i32_180 : BitVec 32 := 64#32
  let c64_i32_179 : BitVec 32 := 64#32
  let c0_i32 : BitVec 32 := 0#32
  let c64_i32_28 : BitVec 32 := 64#32
  let v49 : BitVec 32 := Scalar.muli c0_i32 c64_i32_28
  let c7_i32 : BitVec 32 := 7#32
  let v50 : BitVec 32 := Scalar.addi v49 c7_i32
  let v299 : BitVec 32 := Scalar.muli c64_i32_179 v50
  let v300 : BitVec 32 := Scalar.addi c64_i32_180 v299
  v300
def k0_mult16 : BitVec 32 :=
  let c64_i32_184 : BitVec 32 := 64#32
  let c64_i32_183 : BitVec 32 := 64#32
  let c56_i32_178 : BitVec 32 := 56#32
  let c0_i32_177 : BitVec 32 := 0#32
  let c0_i32 : BitVec 32 := 0#32
  let c64_i32_28 : BitVec 32 := 64#32
  let v49 : BitVec 32 := Scalar.muli c0_i32 c64_i32_28
  let c7_i32 : BitVec 32 := 7#32
  let v50 : BitVec 32 := Scalar.addi v49 c7_i32
  let c4_i32_176 : BitVec 32 := 4#32
  let v296 : BitVec 32 := Scalar.subi v50 c4_i32_176
  let v297 : BitVec 32 := Scalar.maxsi c0_i32_177 v296
  let v298 : BitVec 32 := Scalar.minsi c56_i32_178 v297
  let v306 : BitVec 32 := Scalar.muli c64_i32_183 v298
  let v307 : BitVec 32 := Scalar.addi c64_i32_184 v306
  v307
def k0_mult17 : BitVec 32 :=
  let c64_i32_193 : BitVec 32 := 64#32
  let c64_i32_192 : BitVec 32 := 64#32
  let c0_i32 : BitVec 32 := 0#32
  let c64_i32_29 : BitVec 32 := 64#32
  let v51 : BitVec 32 := Scalar.muli c0_i32 c64_i32_29
  let c8_i32 : BitVec 32 := 8#32
  let v52 : BitVec 32 := Scalar.addi v51 c8_i32
  let v318 : BitVec 32 := Scalar.muli c64_i32_192 v52
  let v319 : BitVec 32 := Scalar.addi c64_i32_193 v318
  v319
def k0_mult18 : BitVec 32 :=
  let c64_i32_197 : BitVec 32 := 64#32
  let c64_i32_196 : BitVec 32 := 64#32
  let c56_i32_191 : BitVec 32 := 56#32
  let c0_i32_190 : BitVec 32 := 0#32
  let c0_i32 : BitVec 32 := 0#32
  let c64_i32_29 : BitVec 32 := 64#32
  let v51 : BitVec 32 := Scalar.muli c0_i32 c64_i32_29
  let c8_i32 : BitVec 32 := 8#32
  let v52 : BitVec 32 := Scalar.addi v51 c8_i32
  let c4_i32_189 : BitVec 32 := 4#32
  let v315 : BitVec 32 := Scalar.subi v52 c4_i32_189
  let v316 : BitVec 32 := Scalar.maxsi c0_i32_190 v315
  let v317 : BitVec 32 := Scalar.minsi c56_i32_191 v316
  let v325 : BitVec 32 := Scalar.muli c64_i32_196 v317
  let v326 : BitVec 32 := Scalar.addi c64_i32_197 v325
  v326
def k0_mult19 : BitVec 32 :=
  let c64_i32_206 : BitVec 32 := 64#32
  let c64_i32_205 : BitVec 32 := 64#32
  let c0_i32 : BitVec 32 := 0#32
  let c64_i32_30 : BitVec 32 := 64#32
  let v53 : BitVec 32 := Scalar.muli c0_i32 c64_i32_30
  let c9_i32 : BitVec 32 := 9#32
  let v54 : BitVec 32 := Scalar.addi v53 c9_i32
  let v337 : BitVec 32 := Scalar.muli c64_i32_205 v54
  let v338 : BitVec 32 := Scalar.addi c64_i32_206 v337
  v338
def k0_mult20 : BitVec 32 :=
  let c64_i32_210 : BitVec 32 := 64#32
  let c64_i32_209 : BitVec 32 := 64#32
  let c56_i32_204 : BitVec 32 := 56#32
  let c0_i32_203 : BitVec 32 := 0#32
  let c0_i32 : BitVec 32 := 0#32
  let c64_i32_30 : BitVec 32 := 64#32
  let v53 : BitVec 32 := Scalar.muli c0_i32 c64_i32_30
  let c9_i32 : BitVec 32 := 9#32
  let v54 : BitVec 32 := Scalar.addi v53 c9_i32
  let c4_i32_202 : BitVec 32 := 4#32
  let v334 : BitVec 32 := Scalar.subi v54 c4_i32_202
  let v335 : BitVec 32 := Scalar.maxsi c0_i32_203 v334
  let v336 : BitVec 32 := Scalar.minsi c56_i32_204 v335
  let v344 : BitVec 32 := Scalar.muli c64_i32_209 v336
  let v345 : BitVec 32 := Scalar.addi c64_i32_210 v344
  v345
def k0_mult21 : BitVec 32 :=
  let c64_i32_219 : BitVec 32 := 64#32
  let c64_i32_218 : BitVec 32 := 64#32
  let c0_i32 : BitVec 32 := 0#32
  let c64_i32_31 : BitVec 32 := 64#32
  let v55 : BitVec 32 := Scalar.muli c0_i32 c64_i32_31
  let c10_i32 : BitVec 32 := 10#32
  let v56 : BitVec 32 := Scalar.addi v55 c10_i32
  let v356 : BitVec 32 := Scalar.muli c64_i32_218 v56
  let v357 : BitVec 32 := Scalar.addi c64_i32_219 v356
  v357
def k0_mult22 : BitVec 32 :=
  let c64_i32_223 : BitVec 32 := 64#32
  let c64_i32_222 : BitVec 32 := 64#32
  let c56_i32_217 : BitVec 32 := 56#32
  let c0_i32_216 : BitVec 32 := 0#32
  let c0_i32 : BitVec 32 := 0#32
  let c64_i32_31 : BitVec 32 := 64#32
  let v55 : BitVec 32 := Scalar.muli c0_i32 c64_i32_31
  let c10_i32 : BitVec 32 := 10#32
  let v56 : BitVec 32 := Scalar.addi v55 c10_i32
  let c4_i32_215 : BitVec 32 := 4#32
  let v353 : BitVec 32 := Scalar.subi v56 c4_i32_215
  let v354 : BitVec 32 := Scalar.maxsi c0_i32_216 v353
  let v355 : BitVec 32 := Scalar.minsi c56_i32_217 v354
  let v363 : BitVec 32 := Scalar.muli c64_i32_222 v355
  let v364 : BitVec 32 := Scalar.addi c64_i32_223 v363
  v364
def k0_mult23 : BitVec 32 :=
  let c64_i32_232 : BitVec 32 := 64#32
  let c64_i32_231 : BitVec 32 := 64#32
  let c0_i32 : BitVec 32 := 0#32
  let c64_i32_32 : BitVec 32 := 64#32
  let v57 : BitVec 32 := Scalar.muli c0_i32 c64_i32_32
  let c11_i32 : BitVec 32 := 11#32
  let v58 : BitVec 32 := Scalar.addi v57 c11_i32
  let v375 : BitVec 32 := Scalar.muli c64_i32_231 v58
  let v376 : BitVec 32 := Scalar.addi c64_i32_232 v375
  v376
def k0_mult24 : BitVec 32 :=
  let c64_i32_236 : BitVec 32 := 64#32
  let c64_i32_235 : BitVec 32 := 64#32
  let c56_i32_230 : BitVec 32 := 56#32
  let c0_i32_229 : BitVec 32 := 0#32
  let c0_i32 : BitVec 32 := 0#32
  let c64_i32_32 : BitVec 32 := 64#32
  let v57 : BitVec 32 := Scalar.muli c0_i32 c64_i32_32
  let c11_i32 : BitVec 32 := 11#32
  let v58 : BitVec 32 := Scalar.addi v57 c11_i32
  let c4_i32_228 : BitVec 32 := 4#32
  let v372 : BitVec 32 := Scalar.subi v58 c4_i32_228
  let v373 : BitVec 32 := Scalar.maxsi c0_i32_229 v372
  let v374 : BitVec 32 := Scalar.minsi c56_i32_230 v373
  let v382 : BitVec 32 := Scalar.muli c64_i32_235 v374
  let v383 : BitVec 32 := Scalar.addi c64_i32_236 v382
  v383
def k0_mult25 : BitVec 32 :=
  let c64_i32_245 : BitVec 32 := 64#32
  let c64_i32_244 : BitVec 32 := 64#32
  let c0_i32 : BitVec 32 := 0#32
  let c64_i32_33 : BitVec 32 := 64#32
  let v59 : BitVec 32 := Scalar.muli c0_i32 c64_i32_33
  let c12_i32 : BitVec 32 := 12#32
  let v60 : BitVec 32 := Scalar.addi v59 c12_i32
  let v394 : BitVec 32 := Scalar.muli c64_i32_244 v60
  let v395 : BitVec 32 := Scalar.addi c64_i32_245 v394
  v395
def k0_mult26 : BitVec 32 :=
  let c64_i32_249 : BitVec 32 := 64#32
  let c64_i32_248 : BitVec 32 := 64#32
  let c56_i32_243 : BitVec 32 := 56#32
  let c0_i32_242 : BitVec 32 := 0#32
  let c0_i32 : BitVec 32 := 0#32
  let c64_i32_33 : BitVec 32 := 64#32
  let v59 : BitVec 32 := Scalar.muli c0_i32 c64_i32_33
  let c12_i32 : BitVec 32 := 12#32
  let v60 : BitVec 32 := Scalar.addi v59 c12_i32
  let c4_i32_241 : BitVec 32 := 4#32
  let v391 : BitVec 32 := Scalar.subi v60 c4_i32_241
  let v392 : BitVec 32 := Scalar.maxsi c0_i32_242 v391
  let v393 : BitVec 32 := Scalar.minsi c56_i32_243 v392
  let v401 : BitVec 32 := Scalar.muli c64_i32_248 v393
  let v402 : BitVec 32 := Scalar.addi c64_i32_249 v401
  v402
def k0_mult27 : BitVec 32 :=
  let c64_i32_258 : BitVec 32 := 64#32
  let c64_i32_257 : BitVec 32 := 64#32
  let c0_i32 : BitVec 32 := 0#32
  let c64_i32_34 : BitVec 32 := 64#32
  let v61 : BitVec 32 := Scalar.muli c0_i32 c64_i32_34
  let c13_i32 : BitVec 32 := 13#32
  let v62 : BitVec 32 := Scalar.addi v61 c13_i32
  let v413 : BitVec 32 := Scalar.muli c64_i32_257 v62
  let v414 : BitVec 32 := Scalar.addi c64_i32_258 v413
  v414
def k0_mult28 : BitVec 32 :=
  let c64_i32_262 : BitVec 32 := 64#32
  let c64_i32_261 : BitVec 32 := 64#32
  let c56_i32_256 : BitVec 32 := 56#32
  let c0_i32_255 : BitVec 32 := 0#32
  let c0_i32 : BitVec 32 := 0#32
  let c64_i32_34 : BitVec 32 := 64#32
  let v61 : BitVec 32 := Scalar.muli c0_i32 c64_i32_34
  let c13_i32 : BitVec 32 := 13#32
  let v62 : BitVec 32 := Scalar.addi v61 c13_i32
  let c4_i32_254 : BitVec 32 := 4#32
  let v410 : BitVec 32 := Scalar.subi v62 c4_i32_254
  let v411 : BitVec 32 := Scalar.maxsi c0_i32_255 v410
  let v412 : BitVec 32 := Scalar.minsi c56_i32_256 v411
  let v420 : BitVec 32 := Scalar.muli c64_i32_261 v412
  let v421 : BitVec 32 := Scalar.addi c64_i32_262 v420
  v421
def k0_mult29 : BitVec 32 :=
  let c64_i32_271 : BitVec 32 := 64#32
  let c64_i32_270 : BitVec 32 := 64#32
  let c0_i32 : BitVec 32 := 0#32
  let c64_i32_35 : BitVec 32 := 64#32
  let v63 : BitVec 32 := Scalar.muli c0_i32 c64_i32_35
  let c14_i32 : BitVec 32 := 14#32
  let v64 : BitVec 32 := Scalar.addi v63 c14_i32
  let v432 : BitVec 32 := Scalar.muli c64_i32_270 v64
  let v433 : BitVec 32 := Scalar.addi c64_i32_271 v432
  v433
def k0_mult30 : BitVec 32 :=
  let c64_i32_275 : BitVec 32 := 64#32
  let c64_i32_274 : BitVec 32 := 64#32
  let c56_i32_269 : BitVec 32 := 56#32
  let c0_i32_268 : BitVec 32 := 0#32
  let c0_i32 : BitVec 32 := 0#32
  let c64_i32_35 : BitVec 32 := 64#32
  let v63 : BitVec 32 := Scalar.muli c0_i32 c64_i32_35
  let c14_i32 : BitVec 32 := 14#32
  let v64 : BitVec 32 := Scalar.addi v63 c14_i32
  let c4_i32_267 : BitVec 32 := 4#32
  let v429 : BitVec 32 := Scalar.subi v64 c4_i32_267
  let v430 : BitVec 32 := Scalar.maxsi c0_i32_268 v429
  let v431 : BitVec 32 := Scalar.minsi c56_i32_269 v430
  let v439 : BitVec 32 := Scalar.muli c64_i32_274 v431
  let v440 : BitVec 32 := Scalar.addi c64_i32_275 v439
  v440
def k0_mult31 : BitVec 32 :=
  let c64_i32_284 : BitVec 32 := 64#32
  let c64_i32_283 : BitVec 32 := 64#32
  let c0_i32 : BitVec 32 := 0#32
  let c64_i32_36 : BitVec 32 := 64#32
  let v65 : BitVec 32 := Scalar.muli c0_i32 c64_i32_36
  let c15_i32 : BitVec 32 := 15#32
  let v66 : BitVec 32 := Scalar.addi v65 c15_i32
  let v451 : BitVec 32 := Scalar.muli c64_i32_283 v66
  let v452 : BitVec 32 := Scalar.addi c64_i32_284 v451
  v452
def k0_mult32 : BitVec 32 :=
  let c64_i32_288 : BitVec 32 := 64#32
  let c64_i32_287 : BitVec 32 := 64#32
  let c56_i32_282 : BitVec 32 := 56#32
  let c0_i32_281 : BitVec 32 := 0#32
  let c0_i32 : BitVec 32 := 0#32
  let c64_i32_36 : BitVec 32 := 64#32
  let v65 : BitVec 32 := Scalar.muli c0_i32 c64_i32_36
  let c15_i32 : BitVec 32 := 15#32
  let v66 : BitVec 32 := Scalar.addi v65 c15_i32
  let c4_i32_280 : BitVec 32 := 4#32
  let v448 : BitVec 32 := Scalar.subi v66 c4_i32_280
  let v449 : BitVec 32 := Scalar.maxsi c0_i32_281 v448
  let v450 : BitVec 32 := Scalar.minsi c56_i32_282 v449
  let v458 : BitVec 32 := Scalar.muli c64_i32_287 v450
  let v459 : BitVec 32 := Scalar.addi c64_i32_288 v458
  v459
def k0_mult33 : BitVec 32 :=
  let c64_i32_297 : BitVec 32 := 64#32
  let c64_i32_296 : BitVec 32 := 64#32
  let c0_i32 : BitVec 32 := 0#32
  let c64_i32_37 : BitVec 32 := 64#32
  let v67 : BitVec 32 := Scalar.muli c0_i32 c64_i32_37
  let c16_i32 : BitVec 32 := 16#32
  let v68 : BitVec 32 := Scalar.addi v67 c16_i32
  let v470 : BitVec 32 := Scalar.muli c64_i32_296 v68
  let v471 : BitVec 32 := Scalar.addi c64_i32_297 v470
  v471
def k0_mult34 : BitVec 32 :=
  let c64_i32_301 : BitVec 32 := 64#32
  let c64_i32_300 : BitVec 32 := 64#32
  let c56_i32_295 : BitVec 32 := 56#32
  let c0_i32_294 : BitVec 32 := 0#32
  let c0_i32 : BitVec 32 := 0#32
  let c64_i32_37 : BitVec 32 := 64#32
  let v67 : BitVec 32 := Scalar.muli c0_i32 c64_i32_37
  let c16_i32 : BitVec 32 := 16#32
  let v68 : BitVec 32 := Scalar.addi v67 c16_i32
  let c4_i32_293 : BitVec 32 := 4#32
  let v467 : BitVec 32 := Scalar.subi v68 c4_i32_293
  let v468 : BitVec 32 := Scalar.maxsi c0_i32_294 v467
  let v469 : BitVec 32 := Scalar.minsi c56_i32_295 v468
  let v477 : BitVec 32 := Scalar.muli c64_i32_300 v469
  let v478 : BitVec 32 := Scalar.addi c64_i32_301 v477
  v478
def k0_mult35 : BitVec 32 :=
  let c64_i32_310 : BitVec 32 := 64#32
  let c64_i32_309 : BitVec 32 := 64#32
  let c0_i32 : BitVec 32 := 0#32
  let c64_i32_38 : BitVec 32 := 64#32
  let v69 : BitVec 32 := Scalar.muli c0_i32 c64_i32_38
  let c17_i32 : BitVec 32 := 17#32
  let v70 : BitVec 32 := Scalar.addi v69 c17_i32
  let v489 : BitVec 32 := Scalar.muli c64_i32_309 v70
  let v490 : BitVec 32 := Scalar.addi c64_i32_310 v489
  v490
def k0_mult36 : BitVec 32 :=
  let c64_i32_314 : BitVec 32 := 64#32
  let c64_i32_313 : BitVec 32 := 64#32
  let c56_i32_308 : BitVec 32 := 56#32
  let c0_i32_307 : BitVec 32 := 0#32
  let c0_i32 : BitVec 32 := 0#32
  let c64_i32_38 : BitVec 32 := 64#32
  let v69 : BitVec 32 := Scalar.muli c0_i32 c64_i32_38
  let c17_i32 : BitVec 32 := 17#32
  let v70 : BitVec 32 := Scalar.addi v69 c17_i32
  let c4_i32_306 : BitVec 32 := 4#32
  let v486 : BitVec 32 := Scalar.subi v70 c4_i32_306
  let v487 : BitVec 32 := Scalar.maxsi c0_i32_307 v486
  let v488 : BitVec 32 := Scalar.minsi c56_i32_308 v487
  let v496 : BitVec 32 := Scalar.muli c64_i32_313 v488
  let v497 : BitVec 32 := Scalar.addi c64_i32_314 v496
  v497
def k0_mult37 : BitVec 32 :=
  let c64_i32_323 : BitVec 32 := 64#32
  let c64_i32_322 : BitVec 32 := 64#32
  let c0_i32 : BitVec 32 := 0#32
  let c64_i32_39 : BitVec 32 := 64#32
  let v71 : BitVec 32 := Scalar.muli c0_i32 c64_i32_39
  let c18_i32 : BitVec 32 := 18#32
  let v72 : BitVec 32 := Scalar.addi v71 c18_i32
  let v508 : BitVec 32 := Scalar.muli c64_i32_322 v72
  let v509 : BitVec 32 := Scalar.addi c64_i32_323 v508
  v509
def k0_mult38 : BitVec 32 :=
  let c64_i32_327 : BitVec 32 := 64#32
  let c64_i32_326 : BitVec 32 := 64#32
  let c56_i32_321 : BitVec 32 := 56#32
  let c0_i32_320 : BitVec 32 := 0#32
  let c0_i32 : BitVec 32 := 0#32
  let c64_i32_39 : BitVec 32 := 64#32
  let v71 : BitVec 32 := Scalar.muli c0_i32 c64_i32_39
  let c18_i32 : BitVec 32 := 18#32
  let v72 : BitVec 32 := Scalar.addi v71 c18_i32
  let c4_i32_319 : BitVec 32 := 4#32
  let v505 : BitVec 32 := Scalar.subi v72 c4_i32_319
  let v506 : BitVec 32 := Scalar.maxsi c0_i32_320 v505
  let v507 : BitVec 32 := Scalar.minsi c56_i32_321 v506
  let v515 : BitVec 32 := Scalar.muli c64_i32_326 v507
  let v516 : BitVec 32 := Scalar.addi c64_i32_327 v515
  v516
def k0_mult39 : BitVec 32 :=
  let c64_i32_336 : BitVec 32 := 64#32
  let c64_i32_335 : BitVec 32 := 64#32
  let c0_i32 : BitVec 32 := 0#32
  let c64_i32_40 : BitVec 32 := 64#32
  let v73 : BitVec 32 := Scalar.muli c0_i32 c64_i32_40
  let c19_i32 : BitVec 32 := 19#32
  let v74 : BitVec 32 := Scalar.addi v73 c19_i32
  let v527 : BitVec 32 := Scalar.muli c64_i32_335 v74
  let v528 : BitVec 32 := Scalar.addi c64_i32_336 v527
  v528
def k0_mult40 : BitVec 32 :=
  let c64_i32_340 : BitVec 32 := 64#32
  let c64_i32_339 : BitVec 32 := 64#32
  let c56_i32_334 : BitVec 32 := 56#32
  let c0_i32_333 : BitVec 32 := 0#32
  let c0_i32 : BitVec 32 := 0#32
  let c64_i32_40 : BitVec 32 := 64#32
  let v73 : BitVec 32 := Scalar.muli c0_i32 c64_i32_40
  let c19_i32 : BitVec 32 := 19#32
  let v74 : BitVec 32 := Scalar.addi v73 c19_i32
  let c4_i32_332 : BitVec 32 := 4#32
  let v524 : BitVec 32 := Scalar.subi v74 c4_i32_332
  let v525 : BitVec 32 := Scalar.maxsi c0_i32_333 v524
  let v526 : BitVec 32 := Scalar.minsi c56_i32_334 v525
  let v534 : BitVec 32 := Scalar.muli c64_i32_339 v526
  let v535 : BitVec 32 := Scalar.addi c64_i32_340 v534
  v535
def k0_mult41 : BitVec 32 :=
  let c64_i32_349 : BitVec 32 := 64#32
  let c64_i32_348 : BitVec 32 := 64#32
  let c0_i32 : BitVec 32 := 0#32
  let c64_i32_41 : BitVec 32 := 64#32
  let v75 : BitVec 32 := Scalar.muli c0_i32 c64_i32_41
  let c20_i32 : BitVec 32 := 20#32
  let v76 : BitVec 32 := Scalar.addi v75 c20_i32
  let v546 : BitVec 32 := Scalar.muli c64_i32_348 v76
  let v547 : BitVec 32 := Scalar.addi c64_i32_349 v546
  v547
def k0_mult42 : BitVec 32 :=
  let c64_i32_353 : BitVec 32 := 64#32
  let c64_i32_352 : BitVec 32 := 64#32
  let c56_i32_347 : BitVec 32 := 56#32
  let c0_i32_346 : BitVec 32 := 0#32
  let c0_i32 : BitVec 32 := 0#32
  let c64_i32_41 : BitVec 32 := 64#32
  let v75 : BitVec 32 := Scalar.muli c0_i32 c64_i32_41
  let c20_i32 : BitVec 32 := 20#32
  let v76 : BitVec 32 := Scalar.addi v75 c20_i32
  let c4_i32_345 : BitVec 32 := 4#32
  let v543 : BitVec 32 := Scalar.subi v76 c4_i32_345
  let v544 : BitVec 32 := Scalar.maxsi c0_i32_346 v543
  let v545 : BitVec 32 := Scalar.minsi c56_i32_347 v544
  let v553 : BitVec 32 := Scalar.muli c64_i32_352 v545
  let v554 : BitVec 32 := Scalar.addi c64_i32_353 v553
  v554
def k0_mult43 : BitVec 32 :=
  let c64_i32_362 : BitVec 32 := 64#32
  let c64_i32_361 : BitVec 32 := 64#32
  let c0_i32 : BitVec 32 := 0#32
  let c64_i32_42 : BitVec 32 := 64#32
  let v77 : BitVec 32 := Scalar.muli c0_i32 c64_i32_42
  let c21_i32 : BitVec 32 := 21#32
  let v78 : BitVec 32 := Scalar.addi v77 c21_i32
  let v565 : BitVec 32 := Scalar.muli c64_i32_361 v78
  let v566 : BitVec 32 := Scalar.addi c64_i32_362 v565
  v566
def k0_mult44 : BitVec 32 :=
  let c64_i32_366 : BitVec 32 := 64#32
  let c64_i32_365 : BitVec 32 := 64#32
  let c56_i32_360 : BitVec 32 := 56#32
  let c0_i32_359 : BitVec 32 := 0#32
  let c0_i32 : BitVec 32 := 0#32
  let c64_i32_42 : BitVec 32 := 64#32
  let v77 : BitVec 32 := Scalar.muli c0_i32 c64_i32_42
  let c21_i32 : BitVec 32 := 21#32
  let v78 : BitVec 32 := Scalar.addi v77 c21_i32
  let c4_i32_358 : BitVec 32 := 4#32
  let v562 : BitVec 32 := Scalar.subi v78 c4_i32_358
  let v563 : BitVec 32 := Scalar.maxsi c0_i32_359 v562
  let v564 : BitVec 32 := Scalar.minsi c56_i32_360 v563
  let v572 : BitVec 32 := Scalar.muli c64_i32_365 v564
  let v573 : BitVec 32 := Scalar.addi c64_i32_366 v572
  v573
def k0_mult45 : BitVec 32 :=
  let c64_i32_375 : BitVec 32 := 64#32
  let c64_i32_374 : BitVec 32 := 64#32
  let c0_i32 : BitVec 32 := 0#32
  let c64_i32_43 : BitVec 32 := 64#32
  let v79 : BitVec 32 := Scalar.muli c0_i32 c64_i32_43
  let c22_i32 : BitVec 32 := 22#32
  let v80 : BitVec 32 := Scalar.addi v79 c22_i32
  let v584 : BitVec 32 := Scalar.muli c64_i32_374 v80
  let v585 : BitVec 32 := Scalar.addi c64_i32_375 v584
  v585
def k0_mult46 : BitVec 32 :=
  let c64_i32_379 : BitVec 32 := 64#32
  let c64_i32_378 : BitVec 32 := 64#32
  let c56_i32_373 : BitVec 32 := 56#32
  let c0_i32_372 : BitVec 32 := 0#32
  let c0_i32 : BitVec 32 := 0#32
  let c64_i32_43 : BitVec 32 := 64#32
  let v79 : BitVec 32 := Scalar.muli c0_i32 c64_i32_43
  let c22_i32 : BitVec 32 := 22#32
  let v80 : BitVec 32 := Scalar.addi v79 c22_i32
  let c4_i32_371 : BitVec 32 := 4#32
  let v581 : BitVec 32 := Scalar.subi v80 c4_i32_371
  let v582 : BitVec 32 := Scalar.maxsi c0_i32_372 v581
  let v583 : BitVec 32 := Scalar.minsi c56_i32_373 v582
  let v591 : BitVec 32 := Scalar.muli c64_i32_378 v583
  let v592 : BitVec 32 := Scalar.addi c64_i32_379 v591
  v592
def k0_mult47 : BitVec 32 :=
  let c64_i32_388 : BitVec 32 := 64#32
  let c64_i32_387 : BitVec 32 := 64#32
  let c0_i32 : BitVec 32 := 0#32
  let c64_i32_44 : BitVec 32 := 64#32
  let v81 : BitVec 32 := Scalar.muli c0_i32 c64_i32_44
  let c23_i32 : BitVec 32 := 23#32
  let v82 : BitVec 32 := Scalar.addi v81 c23_i32
  let v603 : BitVec 32 := Scalar.muli c64_i32_387 v82
  let v604 : BitVec 32 := Scalar.addi c64_i32_388 v603
  v604
def k0_mult48 : BitVec 32 :=
  let c64_i32_392 : BitVec 32 := 64#32
  let c64_i32_391 : BitVec 32 := 64#32
  let c56_i32_386 : BitVec 32 := 56#32
  let c0_i32_385 : BitVec 32 := 0#32
  let c0_i32 : BitVec 32 := 0#32
  let c64_i32_44 : BitVec 32 := 64#32
  let v81 : BitVec 32 := Scalar.muli c0_i32 c64_i32_44
  let c23_i32 : BitVec 32 := 23#32
  let v82 : BitVec 32 := Scalar.addi v81 c23_i32
  let c4_i32_384 : BitVec 32 := 4#32
  let v600 : BitVec 32 := Scalar.subi v82 c4_i32_384
  let v601 : BitVec 32 := Scalar.maxsi c0_i32_385 v600
  let v602 : BitVec 32 := Scalar.minsi c56_i32_386 v601
  let v610 : BitVec 32 := Scalar.muli c64_i32_391 v602
  let v611 : BitVec 32 := Scalar.addi c64_i32_392 v610
  v611
def k0_mult49 : BitVec 32 :=
  let c64_i32_401 : BitVec 32 := 64#32
  let c64_i32_400 : BitVec 32 := 64#32
  let c0_i32 : BitVec 32 := 0#32
  let c64_i32_45 : BitVec 32 := 64#32
  let v83 : BitVec 32 := Scalar.muli c0_i32 c64_i32_45
  let c24_i32 : BitVec 32 := 24#32
  let v84 : BitVec 32 := Scalar.addi v83 c24_i32
  let v622 : BitVec 32 := Scalar.muli c64_i32_400 v84
  let v623 : BitVec 32 := Scalar.addi c64_i32_401 v622
  v623
def k0_mult50 : BitVec 32 :=
  let c64_i32_405 : BitVec 32 := 64#32
  let c64_i32_404 : BitVec 32 := 64#32
  let c56_i32_399 : BitVec 32 := 56#32
  let c0_i32_398 : BitVec 32 := 0#32
  let c0_i32 : BitVec 32 := 0#32
  let c64_i32_45 : BitVec 32 := 64#32
  let v83 : BitVec 32 := Scalar.muli c0_i32 c64_i32_45
  let c24_i32 : BitVec 32 := 24#32
  let v84 : BitVec 32 := Scalar.addi v83 c24_i32
  let c4_i32_397 : BitVec 32 := 4#32
  let v619 : BitVec 32 := Scalar.subi v84 c4_i32_397
  let v620 : BitVec 32 := Scalar.maxsi c0_i32_398 v619
  let v621 : BitVec 32 := Scalar.minsi c56_i32_399 v620
  let v629 : BitVec 32 := Scalar.muli c64_i32_404 v621
  let v630 : BitVec 32 := Scalar.addi c64_i32_405 v629
  v630
def k0_mult51 : BitVec 32 :=
  let c64_i32_414 : BitVec 32 := 64#32
  let c64_i32_413 : BitVec 32 := 64#32
  let c0_i32 : BitVec 32 := 0#32
  let c64_i32_46 : BitVec 32 := 64#32
  let v85 : BitVec 32 := Scalar.muli c0_i32 c64_i32_46
  let c25_i32 : BitVec 32 := 25#32
  let v86 : BitVec 32 := Scalar.addi v85 c25_i32
  let v641 : BitVec 32 := Scalar.muli c64_i32_413 v86
  let v642 : BitVec 32 := Scalar.addi c64_i32_414 v641
  v642
def k0_mult52 : BitVec 32 :=
  let c64_i32_418 : BitVec 32 := 64#32
  let c64_i32_417 : BitVec 32 := 64#32
  let c56_i32_412 : BitVec 32 := 56#32
  let c0_i32_411 : BitVec 32 := 0#32
  let c0_i32 : BitVec 32 := 0#32
  let c64_i32_46 : BitVec 32 := 64#32
  let v85 : BitVec 32 := Scalar.muli c0_i32 c64_i32_46
  let c25_i32 : BitVec 32 := 25#32
  let v86 : BitVec 32 := Scalar.addi v85 c25_i32
  let c4_i32_410 : BitVec 32 := 4#32
  let v638 : BitVec 32 := Scalar.subi v86 c4_i32_410
  let v639 : BitVec 32 := Scalar.maxsi c0_i32_411 v638
  let v640 : BitVec 32 := Scalar.minsi c56_i32_412 v639
  let v648 : BitVec 32 := Scalar.muli c64_i32_417 v640
  let v649 : BitVec 32 := Scalar.addi c64_i32_418 v648
  v649
def k0_mult53 : BitVec 32 :=
  let c64_i32_427 : BitVec 32 := 64#32
  let c64_i32_426 : BitVec 32 := 64#32
  let c0_i32 : BitVec 32 := 0#32
  let c64_i32_47 : BitVec 32 := 64#32
  let v87 : BitVec 32 := Scalar.muli c0_i32 c64_i32_47
  let c26_i32 : BitVec 32 := 26#32
  let v88 : BitVec 32 := Scalar.addi v87 c26_i32
  let v660 : BitVec 32 := Scalar.muli c64_i32_426 v88
  let v661 : BitVec 32 := Scalar.addi c64_i32_427 v660
  v661
def k0_mult54 : BitVec 32 :=
  let c64_i32_431 : BitVec 32 := 64#32
  let c64_i32_430 : BitVec 32 := 64#32
  let c56_i32_425 : BitVec 32 := 56#32
  let c0_i32_424 : BitVec 32 := 0#32
  let c0_i32 : BitVec 32 := 0#32
  let c64_i32_47 : BitVec 32 := 64#32
  let v87 : BitVec 32 := Scalar.muli c0_i32 c64_i32_47
  let c26_i32 : BitVec 32 := 26#32
  let v88 : BitVec 32 := Scalar.addi v87 c26_i32
  let c4_i32_423 : BitVec 32 := 4#32
  let v657 : BitVec 32 := Scalar.subi v88 c4_i32_423
  let v658 : BitVec 32 := Scalar.maxsi c0_i32_424 v657
  let v659 : BitVec 32 := Scalar.minsi c56_i32_425 v658
  let v667 : BitVec 32 := Scalar.muli c64_i32_430 v659
  let v668 : BitVec 32 := Scalar.addi c64_i32_431 v667
  v668
def k0_mult55 : BitVec 32 :=
  let c64_i32_440 : BitVec 32 := 64#32
  let c64_i32_439 : BitVec 32 := 64#32
  let c0_i32 : BitVec 32 := 0#32
  let c64_i32_48 : BitVec 32 := 64#32
  let v89 : BitVec 32 := Scalar.muli c0_i32 c64_i32_48
  let c27_i32 : BitVec 32 := 27#32
  let v90 : BitVec 32 := Scalar.addi v89 c27_i32
  let v679 : BitVec 32 := Scalar.muli c64_i32_439 v90
  let v680 : BitVec 32 := Scalar.addi c64_i32_440 v679
  v680
def k0_mult56 : BitVec 32 :=
  let c64_i32_444 : BitVec 32 := 64#32
  let c64_i32_443 : BitVec 32 := 64#32
  let c56_i32_438 : BitVec 32 := 56#32
  let c0_i32_437 : BitVec 32 := 0#32
  let c0_i32 : BitVec 32 := 0#32
  let c64_i32_48 : BitVec 32 := 64#32
  let v89 : BitVec 32 := Scalar.muli c0_i32 c64_i32_48
  let c27_i32 : BitVec 32 := 27#32
  let v90 : BitVec 32 := Scalar.addi v89 c27_i32
  let c4_i32_436 : BitVec 32 := 4#32
  let v676 : BitVec 32 := Scalar.subi v90 c4_i32_436
  let v677 : BitVec 32 := Scalar.maxsi c0_i32_437 v676
  let v678 : BitVec 32 := Scalar.minsi c56_i32_438 v677
  let v686 : BitVec 32 := Scalar.muli c64_i32_443 v678
  let v687 : BitVec 32 := Scalar.addi c64_i32_444 v686
  v687
def k0_mult57 : BitVec 32 :=
  let c64_i32_453 : BitVec 32 := 64#32
  let c64_i32_452 : BitVec 32 := 64#32
  let c0_i32 : BitVec 32 := 0#32
  let c64_i32_49 : BitVec 32 := 64#32
  let v91 : BitVec 32 := Scalar.muli c0_i32 c64_i32_49
  let c28_i32 : BitVec 32 := 28#32
  let v92 : BitVec 32 := Scalar.addi v91 c28_i32
  let v698 : BitVec 32 := Scalar.muli c64_i32_452 v92
  let v699 : BitVec 32 := Scalar.addi c64_i32_453 v698
  v699
def k0_mult58 : BitVec 32 :=
  let c64_i32_457 : BitVec 32 := 64#32
  let c64_i32_456 : BitVec 32 := 64#32
  let c56_i32_451 : BitVec 32 := 56#32
  let c0_i32_450 : BitVec 32 := 0#32
  let c0_i32 : BitVec 32 := 0#32
  let c64_i32_49 : BitVec 32 := 64#32
  let v91 : BitVec 32 := Scalar.muli c0_i32 c64_i32_49
  let c28_i32 : BitVec 32 := 28#32
  let v92 : BitVec 32 := Scalar.addi v91 c28_i32
  let c4_i32_449 : BitVec 32 := 4#32
  let v695 : BitVec 32 := Scalar.subi v92 c4_i32_449
  let v696 : BitVec 32 := Scalar.maxsi c0_i32_450 v695
  let v697 : BitVec 32 := Scalar.minsi c56_i32_451 v696
  let v705 : BitVec 32 := Scalar.muli c64_i32_456 v697
  let v706 : BitVec 32 := Scalar.addi c64_i32_457 v705
  v706
def k0_mult59 : BitVec 32 :=
  let c64_i32_466 : BitVec 32 := 64#32
  let c64_i32_465 : BitVec 32 := 64#32
  let c0_i32 : BitVec 32 := 0#32
  let c64_i32_50 : BitVec 32 := 64#32
  let v93 : BitVec 32 := Scalar.muli c0_i32 c64_i32_50
  let c29_i32 : BitVec 32 := 29#32
  let v94 : BitVec 32 := Scalar.addi v93 c29_i32
  let v717 : BitVec 32 := Scalar.muli c64_i32_465 v94
  let v718 : BitVec 32 := Scalar.addi c64_i32_466 v717
  v718
def k0_mult60 : BitVec 32 :=
  let c64_i32_470 : BitVec 32 := 64#32
  let c64_i32_469 : BitVec 32 := 64#32
  let c56_i32_464 : BitVec 32 := 56#32
  let c0_i32_463 : BitVec 32 := 0#32
  let c0_i32 : BitVec 32 := 0#32
  let c64_i32_50 : BitVec 32 := 64#32
  let v93 : BitVec 32 := Scalar.muli c0_i32 c64_i32_50
  let c29_i32 : BitVec 32 := 29#32
  let v94 : BitVec 32 := Scalar.addi v93 c29_i32
  let c4_i32_462 : BitVec 32 := 4#32
  let v714 : BitVec 32 := Scalar.subi v94 c4_i32_462
  let v715 : BitVec 32 := Scalar.maxsi c0_i32_463 v714
  let v716 : BitVec 32 := Scalar.minsi c56_i32_464 v715
  let v724 : BitVec 32 := Scalar.muli c64_i32_469 v716
  let v725 : BitVec 32 := Scalar.addi c64_i32_470 v724
  v725
def k0_mult61 : BitVec 32 :=
  let c64_i32_479 : BitVec 32 := 64#32
  let c64_i32_478 : BitVec 32 := 64#32
  let c0_i32 : BitVec 32 := 0#32
  let c64_i32_51 : BitVec 32 := 64#32
  let v95 : BitVec 32 := Scalar.muli c0_i32 c64_i32_51
  let c30_i32 : BitVec 32 := 30#32
  let v96 : BitVec 32 := Scalar.addi v95 c30_i32
  let v736 : BitVec 32 := Scalar.muli c64_i32_478 v96
  let v737 : BitVec 32 := Scalar.addi c64_i32_479 v736
  v737
def k0_mult62 : BitVec 32 :=
  let c64_i32_483 : BitVec 32 := 64#32
  let c64_i32_482 : BitVec 32 := 64#32
  let c56_i32_477 : BitVec 32 := 56#32
  let c0_i32_476 : BitVec 32 := 0#32
  let c0_i32 : BitVec 32 := 0#32
  let c64_i32_51 : BitVec 32 := 64#32
  let v95 : BitVec 32 := Scalar.muli c0_i32 c64_i32_51
  let c30_i32 : BitVec 32 := 30#32
  let v96 : BitVec 32 := Scalar.addi v95 c30_i32
  let c4_i32_475 : BitVec 32 := 4#32
  let v733 : BitVec 32 := Scalar.subi v96 c4_i32_475
  let v734 : BitVec 32 := Scalar.maxsi c0_i32_476 v733
  let v735 : BitVec 32 := Scalar.minsi c56_i32_477 v734
  let v743 : BitVec 32 := Scalar.muli c64_i32_482 v735
  let v744 : BitVec 32 := Scalar.addi c64_i32_483 v743
  v744
def k0_mult63 : BitVec 32 :=
  let c64_i32_492 : BitVec 32 := 64#32
  let c64_i32_491 : BitVec 32 := 64#32
  let c0_i32 : BitVec 32 := 0#32
  let c64_i32_52 : BitVec 32 := 64#32
  let v97 : BitVec 32 := Scalar.muli c0_i32 c64_i32_52
  let c31_i32 : BitVec 32 := 31#32
  let v98 : BitVec 32 := Scalar.addi v97 c31_i32
  let v755 : BitVec 32 := Scalar.muli c64_i32_491 v98
  let v756 : BitVec 32 := Scalar.addi c64_i32_492 v755
  v756
def k0_mult64 : BitVec 32 :=
  let c64_i32_496 : BitVec 32 := 64#32
  let c64_i32_495 : BitVec 32 := 64#32
  let c56_i32_490 : BitVec 32 := 56#32
  let c0_i32_489 : BitVec 32 := 0#32
  let c0_i32 : BitVec 32 := 0#32
  let c64_i32_52 : BitVec 32 := 64#32
  let v97 : BitVec 32 := Scalar.muli c0_i32 c64_i32_52
  let c31_i32 : BitVec 32 := 31#32
  let v98 : BitVec 32 := Scalar.addi v97 c31_i32
  let c4_i32_488 : BitVec 32 := 4#32
  let v752 : BitVec 32 := Scalar.subi v98 c4_i32_488
  let v753 : BitVec 32 := Scalar.maxsi c0_i32_489 v752
  let v754 : BitVec 32 := Scalar.minsi c56_i32_490 v753
  let v762 : BitVec 32 := Scalar.muli c64_i32_495 v754
  let v763 : BitVec 32 := Scalar.addi c64_i32_496 v762
  v763
def k0_mult65 : BitVec 32 :=
  let c64_i32_505 : BitVec 32 := 64#32
  let c64_i32_504 : BitVec 32 := 64#32
  let c0_i32 : BitVec 32 := 0#32
  let c64_i32_53 : BitVec 32 := 64#32
  let v99 : BitVec 32 := Scalar.muli c0_i32 c64_i32_53
  let c32_i32 : BitVec 32 := 32#32
  let v100 : BitVec 32 := Scalar.addi v99 c32_i32
  let v774 : BitVec 32 := Scalar.muli c64_i32_504 v100
  let v775 : BitVec 32 := Scalar.addi c64_i32_505 v774
  v775
def k0_mult66 : BitVec 32 :=
  let c64_i32_509 : BitVec 32 := 64#32
  let c64_i32_508 : BitVec 32 := 64#32
  let c56_i32_503 : BitVec 32 := 56#32
  let c0_i32_502 : BitVec 32 := 0#32
  let c0_i32 : BitVec 32 := 0#32
  let c64_i32_53 : BitVec 32 := 64#32
  let v99 : BitVec 32 := Scalar.muli c0_i32 c64_i32_53
  let c32_i32 : BitVec 32 := 32#32
  let v100 : BitVec 32 := Scalar.addi v99 c32_i32
  let c4_i32_501 : BitVec 32 := 4#32
  let v771 : BitVec 32 := Scalar.subi v100 c4_i32_501
  let v772 : BitVec 32 := Scalar.maxsi c0_i32_502 v771
  let v773 : BitVec 32 := Scalar.minsi c56_i32_503 v772
  let v781 : BitVec 32 := Scalar.muli c64_i32_508 v773
  let v782 : BitVec 32 := Scalar.addi c64_i32_509 v781
  v782
def k0_mult67 : BitVec 32 :=
  let c64_i32_518 : BitVec 32 := 64#32
  let c64_i32_517 : BitVec 32 := 64#32
  let c0_i32 : BitVec 32 := 0#32
  let c64_i32_54 : BitVec 32 := 64#32
  let v101 : BitVec 32 := Scalar.muli c0_i32 c64_i32_54
  let c33_i32 : BitVec 32 := 33#32
  let v102 : BitVec 32 := Scalar.addi v101 c33_i32
  let v793 : BitVec 32 := Scalar.muli c64_i32_517 v102
  let v794 : BitVec 32 := Scalar.addi c64_i32_518 v793
  v794
def k0_mult68 : BitVec 32 :=
  let c64_i32_522 : BitVec 32 := 64#32
  let c64_i32_521 : BitVec 32 := 64#32
  let c56_i32_516 : BitVec 32 := 56#32
  let c0_i32_515 : BitVec 32 := 0#32
  let c0_i32 : BitVec 32 := 0#32
  let c64_i32_54 : BitVec 32 := 64#32
  let v101 : BitVec 32 := Scalar.muli c0_i32 c64_i32_54
  let c33_i32 : BitVec 32 := 33#32
  let v102 : BitVec 32 := Scalar.addi v101 c33_i32
  let c4_i32_514 : BitVec 32 := 4#32
  let v790 : BitVec 32 := Scalar.subi v102 c4_i32_514
  let v791 : BitVec 32 := Scalar.maxsi c0_i32_515 v790
  let v792 : BitVec 32 := Scalar.minsi c56_i32_516 v791
  let v800 : BitVec 32 := Scalar.muli c64_i32_521 v792
  let v801 : BitVec 32 := Scalar.addi c64_i32_522 v800
  v801
def k0_mult69 : BitVec 32 :=
  let c64_i32_531 : BitVec 32 := 64#32
  let c64_i32_530 : BitVec 32 := 64#32
  let c0_i32 : BitVec 32 := 0#32
  let c64_i32_55 : BitVec 32 := 64#32
  let v103 : BitVec 32 := Scalar.muli c0_i32 c64_i32_55
  let c34_i32 : BitVec 32 := 34#32
  let v104 : BitVec 32 := Scalar.addi v103 c34_i32
  let v812 : BitVec 32 := Scalar.muli c64_i32_530 v104
  let v813 : BitVec 32 := Scalar.addi c64_i32_531 v812
  v813
def k0_mult70 : BitVec 32 :=
  let c64_i32_535 : BitVec 32 := 64#32
  let c64_i32_534 : BitVec 32 := 64#32
  let c56_i32_529 : BitVec 32 := 56#32
  let c0_i32_528 : BitVec 32 := 0#32
  let c0_i32 : BitVec 32 := 0#32
  let c64_i32_55 : BitVec 32 := 64#32
  let v103 : BitVec 32 := Scalar.muli c0_i32 c64_i32_55
  let c34_i32 : BitVec 32 := 34#32
  let v104 : BitVec 32 := Scalar.addi v103 c34_i32
  let c4_i32_527 : BitVec 32 := 4#32
  let v809 : BitVec 32 := Scalar.subi v104 c4_i32_527
  let v810 : BitVec 32 := Scalar.maxsi c0_i32_528 v809
  let v811 : BitVec 32 := Scalar.minsi c56_i32_529 v810
  let v819 : BitVec 32 := Scalar.muli c64_i32_534 v811
  let v820 : BitVec 32 := Scalar.addi c64_i32_535 v819
  v820
def k0_mult71 : BitVec 32 :=
  let c64_i32_544 : BitVec 32 := 64#32
  let c64_i32_543 : BitVec 32 := 64#32
  let c0_i32 : BitVec 32 := 0#32
  let c64_i32_56 : BitVec 32 := 64#32
  let v105 : BitVec 32 := Scalar.muli c0_i32 c64_i32_56
  let c35_i32 : BitVec 32 := 35#32
  let v106 : BitVec 32 := Scalar.addi v105 c35_i32
  let v831 : BitVec 32 := Scalar.muli c64_i32_543 v106
  let v832 : BitVec 32 := Scalar.addi c64_i32_544 v831
  v832
def k0_mult72 : BitVec 32 :=
  let c64_i32_548 : BitVec 32 := 64#32
  let c64_i32_547 : BitVec 32 := 64#32
  let c56_i32_542 : BitVec 32 := 56#32
  let c0_i32_541 : BitVec 32 := 0#32
  let c0_i32 : BitVec 32 := 0#32
  let c64_i32_56 : BitVec 32 := 64#32
  let v105 : BitVec 32 := Scalar.muli c0_i32 c64_i32_56
  let c35_i32 : BitVec 32 := 35#32
  let v106 : BitVec 32 := Scalar.addi v105 c35_i32
  let c4_i32_540 : BitVec 32 := 4#32
  let v828 : BitVec 32 := Scalar.subi v106 c4_i32_540
  let v829 : BitVec 32 := Scalar.maxsi c0_i32_541 v828
  let v830 : BitVec 32 := Scalar.minsi c56_i32_542 v829
  let v838 : BitVec 32 := Scalar.muli c64_i32_547 v830
  let v839 : BitVec 32 := Scalar.addi c64_i32_548 v838
  v839
def k0_mult73 : BitVec 32 :=
  let c64_i32_557 : BitVec 32 := 64#32
  let c64_i32_556 : BitVec 32 := 64#32
  let c0_i32 : BitVec 32 := 0#32
  let c64_i32_57 : BitVec 32 := 64#32
  let v107 : BitVec 32 := Scalar.muli c0_i32 c64_i32_57
  let c36_i32 : BitVec 32 := 36#32
  let v108 : BitVec 32 := Scalar.addi v107 c36_i32
  let v850 : BitVec 32 := Scalar.muli c64_i32_556 v108
  let v851 : BitVec 32 := Scalar.addi c64_i32_557 v850
  v851
def k0_mult74 : BitVec 32 :=
  let c64_i32_561 : BitVec 32 := 64#32
  let c64_i32_560 : BitVec 32 := 64#32
  let c56_i32_555 : BitVec 32 := 56#32
  let c0_i32_554 : BitVec 32 := 0#32
  let c0_i32 : BitVec 32 := 0#32
  let c64_i32_57 : BitVec 32 := 64#32
  let v107 : BitVec 32 := Scalar.muli c0_i32 c64_i32_57
  let c36_i32 : BitVec 32 := 36#32
  let v108 : BitVec 32 := Scalar.addi v107 c36_i32
  let c4_i32_553 : BitVec 32 := 4#32
  let v847 : BitVec 32 := Scalar.subi v108 c4_i32_553
  let v848 : BitVec 32 := Scalar.maxsi c0_i32_554 v847
  let v849 : BitVec 32 := Scalar.minsi c56_i32_555 v848
  let v857 : BitVec 32 := Scalar.muli c64_i32_560 v849
  let v858 : BitVec 32 := Scalar.addi c64_i32_561 v857
  v858
def k0_mult75 : BitVec 32 :=
  let c64_i32_570 : BitVec 32 := 64#32
  let c64_i32_569 : BitVec 32 := 64#32
  let c0_i32 : BitVec 32 := 0#32
  let c64_i32_58 : BitVec 32 := 64#32
  let v109 : BitVec 32 := Scalar.muli c0_i32 c64_i32_58
  let c37_i32 : BitVec 32 := 37#32
  let v110 : BitVec 32 := Scalar.addi v109 c37_i32
  let v869 : BitVec 32 := Scalar.muli c64_i32_569 v110
  let v870 : BitVec 32 := Scalar.addi c64_i32_570 v869
  v870
def k0_mult76 : BitVec 32 :=
  let c64_i32_574 : BitVec 32 := 64#32
  let c64_i32_573 : BitVec 32 := 64#32
  let c56_i32_568 : BitVec 32 := 56#32
  let c0_i32_567 : BitVec 32 := 0#32
  let c0_i32 : BitVec 32 := 0#32
  let c64_i32_58 : BitVec 32 := 64#32
  let v109 : BitVec 32 := Scalar.muli c0_i32 c64_i32_58
  let c37_i32 : BitVec 32 := 37#32
  let v110 : BitVec 32 := Scalar.addi v109 c37_i32
  let c4_i32_566 : BitVec 32 := 4#32
  let v866 : BitVec 32 := Scalar.subi v110 c4_i32_566
  let v867 : BitVec 32 := Scalar.maxsi c0_i32_567 v866
  let v868 : BitVec 32 := Scalar.minsi c56_i32_568 v867
  let v876 : BitVec 32 := Scalar.muli c64_i32_573 v868
  let v877 : BitVec 32 := Scalar.addi c64_i32_574 v876
  v877
def k0_mult77 : BitVec 32 :=
  let c64_i32_583 : BitVec 32 := 64#32
  let c64_i32_582 : BitVec 32 := 64#32
  let c0_i32 : BitVec 32 := 0#32
  let c64_i32_59 : BitVec 32 := 64#32
  let v111 : BitVec 32 := Scalar.muli c0_i32 c64_i32_59
  let c38_i32 : BitVec 32 := 38#32
  let v112 : BitVec 32 := Scalar.addi v111 c38_i32
  let v888 : BitVec 32 := Scalar.muli c64_i32_582 v112
  let v889 : BitVec 32 := Scalar.addi c64_i32_583 v888
  v889
def k0_mult78 : BitVec 32 :=
  let c64_i32_587 : BitVec 32 := 64#32
  let c64_i32_586 : BitVec 32 := 64#32
  let c56_i32_581 : BitVec 32 := 56#32
  let c0_i32_580 : BitVec 32 := 0#32
  let c0_i32 : BitVec 32 := 0#32
  let c64_i32_59 : BitVec 32 := 64#32
  let v111 : BitVec 32 := Scalar.muli c0_i32 c64_i32_59
  let c38_i32 : BitVec 32 := 38#32
  let v112 : BitVec 32 := Scalar.addi v111 c38_i32
  let c4_i32_579 : BitVec 32 := 4#32
  let v885 : BitVec 32 := Scalar.subi v112 c4_i32_579
  let v886 : BitVec 32 := Scalar.maxsi c0_i32_580 v885
  let v887 : BitVec 32 := Scalar.minsi c56_i32_581 v886
  let v895 : BitVec 32 := Scalar.muli c64_i32_586 v887
  let v896 : BitVec 32 := Scalar.addi c64_i32_587 v895
  v896
def k0_mult79 : BitVec 32 :=
  let c64_i32_596 : BitVec 32 := 64#32
  let c64_i32_595 : BitVec 32 := 64#32
  let c0_i32 : BitVec 32 := 0#32
  let c64_i32_60 : BitVec 32 := 64#32
  let v113 : BitVec 32 := Scalar.muli c0_i32 c64_i32_60
  let c39_i32 : BitVec 32 := 39#32
  let v114 : BitVec 32 := Scalar.addi v113 c39_i32
  let v907 : BitVec 32 := Scalar.muli c64_i32_595 v114
  let v908 : BitVec 32 := Scalar.addi c64_i32_596 v907
  v908
def k0_mult80 : BitVec 32 :=
  let c64_i32_600 : BitVec 32 := 64#32
  let c64_i32_599 : BitVec 32 := 64#32
  let c56_i32_594 : BitVec 32 := 56#32
  let c0_i32_593 : BitVec 32 := 0#32
  let c0_i32 : BitVec 32 := 0#32
  let c64_i32_60 : BitVec 32 := 64#32
  let v113 : BitVec 32 := Scalar.muli c0_i32 c64_i32_60
  let c39_i32 : BitVec 32 := 39#32
  let v114 : BitVec 32 := Scalar.addi v113 c39_i32
  let c4_i32_592 : BitVec 32 := 4#32
  let v904 : BitVec 32 := Scalar.subi v114 c4_i32_592
  let v905 : BitVec 32 := Scalar.maxsi c0_i32_593 v904
  let v906 : BitVec 32 := Scalar.minsi c56_i32_594 v905
  let v914 : BitVec 32 := Scalar.muli c64_i32_599 v906
  let v915 : BitVec 32 := Scalar.addi c64_i32_600 v914
  v915
def k0_mult81 : BitVec 32 :=
  let c64_i32_609 : BitVec 32 := 64#32
  let c64_i32_608 : BitVec 32 := 64#32
  let c0_i32 : BitVec 32 := 0#32
  let c64_i32_61 : BitVec 32 := 64#32
  let v115 : BitVec 32 := Scalar.muli c0_i32 c64_i32_61
  let c40_i32 : BitVec 32 := 40#32
  let v116 : BitVec 32 := Scalar.addi v115 c40_i32
  let v926 : BitVec 32 := Scalar.muli c64_i32_608 v116
  let v927 : BitVec 32 := Scalar.addi c64_i32_609 v926
  v927
def k0_mult82 : BitVec 32 :=
  let c64_i32_613 : BitVec 32 := 64#32
  let c64_i32_612 : BitVec 32 := 64#32
  let c56_i32_607 : BitVec 32 := 56#32
  let c0_i32_606 : BitVec 32 := 0#32
  let c0_i32 : BitVec 32 := 0#32
  let c64_i32_61 : BitVec 32 := 64#32
  let v115 : BitVec 32 := Scalar.muli c0_i32 c64_i32_61
  let c40_i32 : BitVec 32 := 40#32
  let v116 : BitVec 32 := Scalar.addi v115 c40_i32
  let c4_i32_605 : BitVec 32 := 4#32
  let v923 : BitVec 32 := Scalar.subi v116 c4_i32_605
  let v924 : BitVec 32 := Scalar.maxsi c0_i32_606 v923
  let v925 : BitVec 32 := Scalar.minsi c56_i32_607 v924
  let v933 : BitVec 32 := Scalar.muli c64_i32_612 v925
  let v934 : BitVec 32 := Scalar.addi c64_i32_613 v933
  v934
def k0_mult83 : BitVec 32 :=
  let c64_i32_622 : BitVec 32 := 64#32
  let c64_i32_621 : BitVec 32 := 64#32
  let c0_i32 : BitVec 32 := 0#32
  let c64_i32_62 : BitVec 32 := 64#32
  let v117 : BitVec 32 := Scalar.muli c0_i32 c64_i32_62
  let c41_i32 : BitVec 32 := 41#32
  let v118 : BitVec 32 := Scalar.addi v117 c41_i32
  let v945 : BitVec 32 := Scalar.muli c64_i32_621 v118
  let v946 : BitVec 32 := Scalar.addi c64_i32_622 v945
  v946
def k0_mult84 : BitVec 32 :=
  let c64_i32_626 : BitVec 32 := 64#32
  let c64_i32_625 : BitVec 32 := 64#32
  let c56_i32_620 : BitVec 32 := 56#32
  let c0_i32_619 : BitVec 32 := 0#32
  let c0_i32 : BitVec 32 := 0#32
  let c64_i32_62 : BitVec 32 := 64#32
  let v117 : BitVec 32 := Scalar.muli c0_i32 c64_i32_62
  let c41_i32 : BitVec 32 := 41#32
  let v118 : BitVec 32 := Scalar.addi v117 c41_i32
  let c4_i32_618 : BitVec 32 := 4#32
  let v942 : BitVec 32 := Scalar.subi v118 c4_i32_618
  let v943 : BitVec 32 := Scalar.maxsi c0_i32_619 v942
  let v944 : BitVec 32 := Scalar.minsi c56_i32_620 v943
  let v952 : BitVec 32 := Scalar.muli c64_i32_625 v944
  let v953 : BitVec 32 := Scalar.addi c64_i32_626 v952
  v953
def k0_mult85 : BitVec 32 :=
  let c64_i32_635 : BitVec 32 := 64#32
  let c64_i32_634 : BitVec 32 := 64#32
  let c0_i32 : BitVec 32 := 0#32
  let c64_i32_63 : BitVec 32 := 64#32
  let v119 : BitVec 32 := Scalar.muli c0_i32 c64_i32_63
  let c42_i32 : BitVec 32 := 42#32
  let v120 : BitVec 32 := Scalar.addi v119 c42_i32
  let v964 : BitVec 32 := Scalar.muli c64_i32_634 v120
  let v965 : BitVec 32 := Scalar.addi c64_i32_635 v964
  v965
def k0_mult86 : BitVec 32 :=
  let c64_i32_639 : BitVec 32 := 64#32
  let c64_i32_638 : BitVec 32 := 64#32
  let c56_i32_633 : BitVec 32 := 56#32
  let c0_i32_632 : BitVec 32 := 0#32
  let c0_i32 : BitVec 32 := 0#32
  let c64_i32_63 : BitVec 32 := 64#32
  let v119 : BitVec 32 := Scalar.muli c0_i32 c64_i32_63
  let c42_i32 : BitVec 32 := 42#32
  let v120 : BitVec 32 := Scalar.addi v119 c42_i32
  let c4_i32_631 : BitVec 32 := 4#32
  let v961 : BitVec 32 := Scalar.subi v120 c4_i32_631
  let v962 : BitVec 32 := Scalar.maxsi c0_i32_632 v961
  let v963 : BitVec 32 := Scalar.minsi c56_i32_633 v962
  let v971 : BitVec 32 := Scalar.muli c64_i32_638 v963
  let v972 : BitVec 32 := Scalar.addi c64_i32_639 v971
  v972
def k0_mult87 : BitVec 32 :=
  let c64_i32_648 : BitVec 32 := 64#32
  let c64_i32_647 : BitVec 32 := 64#32
  let c0_i32 : BitVec 32 := 0#32
  let c64_i32_64 : BitVec 32 := 64#32
  let v121 : BitVec 32 := Scalar.muli c0_i32 c64_i32_64
  let c43_i32 : BitVec 32 := 43#32
  let v122 : BitVec 32 := Scalar.addi v121 c43_i32
  let v983 : BitVec 32 := Scalar.muli c64_i32_647 v122
  let v984 : BitVec 32 := Scalar.addi c64_i32_648 v983
  v984
def k0_mult88 : BitVec 32 :=
  let c64_i32_652 : BitVec 32 := 64#32
  let c64_i32_651 : BitVec 32 := 64#32
  let c56_i32_646 : BitVec 32 := 56#32
  let c0_i32_645 : BitVec 32 := 0#32
  let c0_i32 : BitVec 32 := 0#32
  let c64_i32_64 : BitVec 32 := 64#32
  let v121 : BitVec 32 := Scalar.muli c0_i32 c64_i32_64
  let c43_i32 : BitVec 32 := 43#32
  let v122 : BitVec 32 := Scalar.addi v121 c43_i32
  let c4_i32_644 : BitVec 32 := 4#32
  let v980 : BitVec 32 := Scalar.subi v122 c4_i32_644
  let v981 : BitVec 32 := Scalar.maxsi c0_i32_645 v980
  let v982 : BitVec 32 := Scalar.minsi c56_i32_646 v981
  let v990 : BitVec 32 := Scalar.muli c64_i32_651 v982
  let v991 : BitVec 32 := Scalar.addi c64_i32_652 v990
  v991
def k0_mult89 : BitVec 32 :=
  let c64_i32_661 : BitVec 32 := 64#32
  let c64_i32_660 : BitVec 32 := 64#32
  let c0_i32 : BitVec 32 := 0#32
  let c64_i32_65 : BitVec 32 := 64#32
  let v123 : BitVec 32 := Scalar.muli c0_i32 c64_i32_65
  let c44_i32 : BitVec 32 := 44#32
  let v124 : BitVec 32 := Scalar.addi v123 c44_i32
  let v1002 : BitVec 32 := Scalar.muli c64_i32_660 v124
  let v1003 : BitVec 32 := Scalar.addi c64_i32_661 v1002
  v1003
def k0_mult90 : BitVec 32 :=
  let c64_i32_665 : BitVec 32 := 64#32
  let c64_i32_664 : BitVec 32 := 64#32
  let c56_i32_659 : BitVec 32 := 56#32
  let c0_i32_658 : BitVec 32 := 0#32
  let c0_i32 : BitVec 32 := 0#32
  let c64_i32_65 : BitVec 32 := 64#32
  let v123 : BitVec 32 := Scalar.muli c0_i32 c64_i32_65
  let c44_i32 : BitVec 32 := 44#32
  let v124 : BitVec 32 := Scalar.addi v123 c44_i32
  let c4_i32_657 : BitVec 32 := 4#32
  let v999 : BitVec 32 := Scalar.subi v124 c4_i32_657
  let v1000 : BitVec 32 := Scalar.maxsi c0_i32_658 v999
  let v1001 : BitVec 32 := Scalar.minsi c56_i32_659 v1000
  let v1009 : BitVec 32 := Scalar.muli c64_i32_664 v1001
  let v1010 : BitVec 32 := Scalar.addi c64_i32_665 v1009
  v1010
def k0_mult91 : BitVec 32 :=
  let c64_i32_674 : BitVec 32 := 64#32
  let c64_i32_673 : BitVec 32 := 64#32
  let c0_i32 : BitVec 32 := 0#32
  let c64_i32_66 : BitVec 32 := 64#32
  let v125 : BitVec 32 := Scalar.muli c0_i32 c64_i32_66
  let c45_i32 : BitVec 32 := 45#32
  let v126 : BitVec 32 := Scalar.addi v125 c45_i32
  let v1021 : BitVec 32 := Scalar.muli c64_i32_673 v126
  let v1022 : BitVec 32 := Scalar.addi c64_i32_674 v1021
  v1022
def k0_mult92 : BitVec 32 :=
  let c64_i32_678 : BitVec 32 := 64#32
  let c64_i32_677 : BitVec 32 := 64#32
  let c56_i32_672 : BitVec 32 := 56#32
  let c0_i32_671 : BitVec 32 := 0#32
  let c0_i32 : BitVec 32 := 0#32
  let c64_i32_66 : BitVec 32 := 64#32
  let v125 : BitVec 32 := Scalar.muli c0_i32 c64_i32_66
  let c45_i32 : BitVec 32 := 45#32
  let v126 : BitVec 32 := Scalar.addi v125 c45_i32
  let c4_i32_670 : BitVec 32 := 4#32
  let v1018 : BitVec 32 := Scalar.subi v126 c4_i32_670
  let v1019 : BitVec 32 := Scalar.maxsi c0_i32_671 v1018
  let v1020 : BitVec 32 := Scalar.minsi c56_i32_672 v1019
  let v1028 : BitVec 32 := Scalar.muli c64_i32_677 v1020
  let v1029 : BitVec 32 := Scalar.addi c64_i32_678 v1028
  v1029
def k0_mult93 : BitVec 32 :=
  let c64_i32_687 : BitVec 32 := 64#32
  let c64_i32_686 : BitVec 32 := 64#32
  let c0_i32 : BitVec 32 := 0#32
  let c64_i32_67 : BitVec 32 := 64#32
  let v127 : BitVec 32 := Scalar.muli c0_i32 c64_i32_67
  let c46_i32 : BitVec 32 := 46#32
  let v128 : BitVec 32 := Scalar.addi v127 c46_i32
  let v1040 : BitVec 32 := Scalar.muli c64_i32_686 v128
  let v1041 : BitVec 32 := Scalar.addi c64_i32_687 v1040
  v1041
def k0_mult94 : BitVec 32 :=
  let c64_i32_691 : BitVec 32 := 64#32
  let c64_i32_690 : BitVec 32 := 64#32
  let c56_i32_685 : BitVec 32 := 56#32
  let c0_i32_684 : BitVec 32 := 0#32
  let c0_i32 : BitVec 32 := 0#32
  let c64_i32_67 : BitVec 32 := 64#32
  let v127 : BitVec 32 := Scalar.muli c0_i32 c64_i32_67
  let c46_i32 : BitVec 32 := 46#32
  let v128 : BitVec 32 := Scalar.addi v127 c46_i32
  let c4_i32_683 : BitVec 32 := 4#32
  let v1037 : BitVec 32 := Scalar.subi v128 c4_i32_683
  let v1038 : BitVec 32 := Scalar.maxsi c0_i32_684 v1037
  let v1039 : BitVec 32 := Scalar.minsi c56_i32_685 v1038
  let v1047 : BitVec 32 := Scalar.muli c64_i32_690 v1039
  let v1048 : BitVec 32 := Scalar.addi c64_i32_691 v1047
  v1048
def k0_mult95 : BitVec 32 :=
  let c64_i32_700 : BitVec 32 := 64#32
  let c64_i32_699 : BitVec 32 := 64#32
  let c0_i32 : BitVec 32 := 0#32
  let c64_i32_68 : BitVec 32 := 64#32
  let v129 : BitVec 32 := Scalar.muli c0_i32 c64_i32_68
  let c47_i32 : BitVec 32 := 47#32
  let v130 : BitVec 32 := Scalar.addi v129 c47_i32
  let v1059 : BitVec 32 := Scalar.muli c64_i32_699 v130
  let v1060 : BitVec 32 := Scalar.addi c64_i32_700 v1059
  v1060
def k0_mult96 : BitVec 32 :=
  let c64_i32_704 : BitVec 32 := 64#32
  let c64_i32_703 : BitVec 32 := 64#32
  let c56_i32_698 : BitVec 32 := 56#32
  let c0_i32_697 : BitVec 32 := 0#32
  let c0_i32 : BitVec 32 := 0#32
  let c64_i32_68 : BitVec 32 := 64#32
  let v129 : BitVec 32 := Scalar.muli c0_i32 c64_i32_68
  let c47_i32 : BitVec 32 := 47#32
  let v130 : BitVec 32 := Scalar.addi v129 c47_i32
  let c4_i32_696 : BitVec 32 := 4#32
  let v1056 : BitVec 32 := Scalar.subi v130 c4_i32_696
  let v1057 : BitVec 32 := Scalar.maxsi c0_i32_697 v1056
  let v1058 : BitVec 32 := Scalar.minsi c56_i32_698 v1057
  let v1066 : BitVec 32 := Scalar.muli c64_i32_703 v1058
  let v1067 : BitVec 32 := Scalar.addi c64_i32_704 v1066
  v1067
def k0_mult97 : BitVec 32 :=
  let c64_i32_713 : BitVec 32 := 64#32
  let c64_i32_712 : BitVec 32 := 64#32
  let c0_i32 : BitVec 32 := 0#32
  let c64_i32_69 : BitVec 32 := 64#32
  let v131 : BitVec 32 := Scalar.muli c0_i32 c64_i32_69
  let c48_i32 : BitVec 32 := 48#32
  let v132 : BitVec 32 := Scalar.addi v131 c48_i32
  let v1078 : BitVec 32 := Scalar.muli c64_i32_712 v132
  let v1079 : BitVec 32 := Scalar.addi c64_i32_713 v1078
  v1079
def k0_mult98 : BitVec 32 :=
  let c64_i32_717 : BitVec 32 := 64#32
  let c64_i32_716 : BitVec 32 := 64#32
  let c56_i32_711 : BitVec 32 := 56#32
  let c0_i32_710 : BitVec 32 := 0#32
  let c0_i32 : BitVec 32 := 0#32
  let c64_i32_69 : BitVec 32 := 64#32
  let v131 : BitVec 32 := Scalar.muli c0_i32 c64_i32_69
  let c48_i32 : BitVec 32 := 48#32
  let v132 : BitVec 32 := Scalar.addi v131 c48_i32
  let c4_i32_709 : BitVec 32 := 4#32
  let v1075 : BitVec 32 := Scalar.subi v132 c4_i32_709
  let v1076 : BitVec 32 := Scalar.maxsi c0_i32_710 v1075
  let v1077 : BitVec 32 := Scalar.minsi c56_i32_711 v1076
  let v1085 : BitVec 32 := Scalar.muli c64_i32_716 v1077
  let v1086 : BitVec 32 := Scalar.addi c64_i32_717 v1085
  v1086
def k0_mult99 : BitVec 32 :=
  let c64_i32_726 : BitVec 32 := 64#32
  let c64_i32_725 : BitVec 32 := 64#32
  let c0_i32 : BitVec 32 := 0#32
  let c64_i32_70 : BitVec 32 := 64#32
  let v133 : BitVec 32 := Scalar.muli c0_i32 c64_i32_70
  let c49_i32 : BitVec 32 := 49#32
  let v134 : BitVec 32 := Scalar.addi v133 c49_i32
  let v1097 : BitVec 32 := Scalar.muli c64_i32_725 v134
  let v1098 : BitVec 32 := Scalar.addi c64_i32_726 v1097
  v1098
def k0_mult100 : BitVec 32 :=
  let c64_i32_730 : BitVec 32 := 64#32
  let c64_i32_729 : BitVec 32 := 64#32
  let c56_i32_724 : BitVec 32 := 56#32
  let c0_i32_723 : BitVec 32 := 0#32
  let c0_i32 : BitVec 32 := 0#32
  let c64_i32_70 : BitVec 32 := 64#32
  let v133 : BitVec 32 := Scalar.muli c0_i32 c64_i32_70
  let c49_i32 : BitVec 32 := 49#32
  let v134 : BitVec 32 := Scalar.addi v133 c49_i32
  let c4_i32_722 : BitVec 32 := 4#32
  let v1094 : BitVec 32 := Scalar.subi v134 c4_i32_722
  let v1095 : BitVec 32 := Scalar.maxsi c0_i32_723 v1094
  let v1096 : BitVec 32 := Scalar.minsi c56_i32_724 v1095
  let v1104 : BitVec 32 := Scalar.muli c64_i32_729 v1096
  let v1105 : BitVec 32 := Scalar.addi c64_i32_730 v1104
  v1105
def k0_mult101 : BitVec 32 :=
  let c64_i32_739 : BitVec 32 := 64#32
  let c64_i32_738 : BitVec 32 := 64#32
  let c0_i32 : BitVec 32 := 0#32
  let c64_i32_71 : BitVec 32 := 64#32
  let v135 : BitVec 32 := Scalar.muli c0_i32 c64_i32_71
  let c50_i32 : BitVec 32 := 50#32
  let v136 : BitVec 32 := Scalar.addi v135 c50_i32
  let v1116 : BitVec 32 := Scalar.muli c64_i32_738 v136
  let v1117 : BitVec 32 := Scalar.addi c64_i32_739 v1116
  v1117
def k0_mult102 : BitVec 32 :=
  let c64_i32_743 : BitVec 32 := 64#32
  let c64_i32_742 : BitVec 32 := 64#32
  let c56_i32_737 : BitVec 32 := 56#32
  let c0_i32_736 : BitVec 32 := 0#32
  let c0_i32 : BitVec 32 := 0#32
  let c64_i32_71 : BitVec 32 := 64#32
  let v135 : BitVec 32 := Scalar.muli c0_i32 c64_i32_71
  let c50_i32 : BitVec 32 := 50#32
  let v136 : BitVec 32 := Scalar.addi v135 c50_i32
  let c4_i32_735 : BitVec 32 := 4#32
  let v1113 : BitVec 32 := Scalar.subi v136 c4_i32_735
  let v1114 : BitVec 32 := Scalar.maxsi c0_i32_736 v1113
  let v1115 : BitVec 32 := Scalar.minsi c56_i32_737 v1114
  let v1123 : BitVec 32 := Scalar.muli c64_i32_742 v1115
  let v1124 : BitVec 32 := Scalar.addi c64_i32_743 v1123
  v1124
def k0_mult103 : BitVec 32 :=
  let c64_i32_752 : BitVec 32 := 64#32
  let c64_i32_751 : BitVec 32 := 64#32
  let c0_i32 : BitVec 32 := 0#32
  let c64_i32_72 : BitVec 32 := 64#32
  let v137 : BitVec 32 := Scalar.muli c0_i32 c64_i32_72
  let c51_i32 : BitVec 32 := 51#32
  let v138 : BitVec 32 := Scalar.addi v137 c51_i32
  let v1135 : BitVec 32 := Scalar.muli c64_i32_751 v138
  let v1136 : BitVec 32 := Scalar.addi c64_i32_752 v1135
  v1136
def k0_mult104 : BitVec 32 :=
  let c64_i32_756 : BitVec 32 := 64#32
  let c64_i32_755 : BitVec 32 := 64#32
  let c56_i32_750 : BitVec 32 := 56#32
  let c0_i32_749 : BitVec 32 := 0#32
  let c0_i32 : BitVec 32 := 0#32
  let c64_i32_72 : BitVec 32 := 64#32
  let v137 : BitVec 32 := Scalar.muli c0_i32 c64_i32_72
  let c51_i32 : BitVec 32 := 51#32
  let v138 : BitVec 32 := Scalar.addi v137 c51_i32
  let c4_i32_748 : BitVec 32 := 4#32
  let v1132 : BitVec 32 := Scalar.subi v138 c4_i32_748
  let v1133 : BitVec 32 := Scalar.maxsi c0_i32_749 v1132
  let v1134 : BitVec 32 := Scalar.minsi c56_i32_750 v1133
  let v1142 : BitVec 32 := Scalar.muli c64_i32_755 v1134
  let v1143 : BitVec 32 := Scalar.addi c64_i32_756 v1142
  v1143
def k0_mult105 : BitVec 32 :=
  let c64_i32_765 : BitVec 32 := 64#32
  let c64_i32_764 : BitVec 32 := 64#32
  let c0_i32 : BitVec 32 := 0#32
  let c64_i32_73 : BitVec 32 := 64#32
  let v139 : BitVec 32 := Scalar.muli c0_i32 c64_i32_73
  let c52_i32 : BitVec 32 := 52#32
  let v140 : BitVec 32 := Scalar.addi v139 c52_i32
  let v1154 : BitVec 32 := Scalar.muli c64_i32_764 v140
  let v1155 : BitVec 32 := Scalar.addi c64_i32_765 v1154
  v1155
def k0_mult106 : BitVec 32 :=
  let c64_i32_769 : BitVec 32 := 64#32
  let c64_i32_768 : BitVec 32 := 64#32
  let c56_i32_763 : BitVec 32 := 56#32
  let c0_i32_762 : BitVec 32 := 0#32
  let c0_i32 : BitVec 32 := 0#32
  let c64_i32_73 : BitVec 32 := 64#32
  let v139 : BitVec 32 := Scalar.muli c0_i32 c64_i32_73
  let c52_i32 : BitVec 32 := 52#32
  let v140 : BitVec 32 := Scalar.addi v139 c52_i32
  let c4_i32_761 : BitVec 32 := 4#32
  let v1151 : BitVec 32 := Scalar.subi v140 c4_i32_761
  let v1152 : BitVec 32 := Scalar.maxsi c0_i32_762 v1151
  let v1153 : BitVec 32 := Scalar.minsi c56_i32_763 v1152
  let v1161 : BitVec 32 := Scalar.muli c64_i32_768 v1153
  let v1162 : BitVec 32 := Scalar.addi c64_i32_769 v1161
  v1162
def k0_mult107 : BitVec 32 :=
  let c64_i32_778 : BitVec 32 := 64#32
  let c64_i32_777 : BitVec 32 := 64#32
  let c0_i32 : BitVec 32 := 0#32
  let c64_i32_74 : BitVec 32 := 64#32
  let v141 : BitVec 32 := Scalar.muli c0_i32 c64_i32_74
  let c53_i32 : BitVec 32 := 53#32
  let v142 : BitVec 32 := Scalar.addi v141 c53_i32
  let v1173 : BitVec 32 := Scalar.muli c64_i32_777 v142
  let v1174 : BitVec 32 := Scalar.addi c64_i32_778 v1173
  v1174
def k0_mult108 : BitVec 32 :=
  let c64_i32_782 : BitVec 32 := 64#32
  let c64_i32_781 : BitVec 32 := 64#32
  let c56_i32_776 : BitVec 32 := 56#32
  let c0_i32_775 : BitVec 32 := 0#32
  let c0_i32 : BitVec 32 := 0#32
  let c64_i32_74 : BitVec 32 := 64#32
  let v141 : BitVec 32 := Scalar.muli c0_i32 c64_i32_74
  let c53_i32 : BitVec 32 := 53#32
  let v142 : BitVec 32 := Scalar.addi v141 c53_i32
  let c4_i32_774 : BitVec 32 := 4#32
  let v1170 : BitVec 32 := Scalar.subi v142 c4_i32_774
  let v1171 : BitVec 32 := Scalar.maxsi c0_i32_775 v1170
  let v1172 : BitVec 32 := Scalar.minsi c56_i32_776 v1171
  let v1180 : BitVec 32 := Scalar.muli c64_i32_781 v1172
  let v1181 : BitVec 32 := Scalar.addi c64_i32_782 v1180
  v1181
def k0_mult109 : BitVec 32 :=
  let c64_i32_791 : BitVec 32 := 64#32
  let c64_i32_790 : BitVec 32 := 64#32
  let c0_i32 : BitVec 32 := 0#32
  let c64_i32_75 : BitVec 32 := 64#32
  let v143 : BitVec 32 := Scalar.muli c0_i32 c64_i32_75
  let c54_i32 : BitVec 32 := 54#32
  let v144 : BitVec 32 := Scalar.addi v143 c54_i32
  let v1192 : BitVec 32 := Scalar.muli c64_i32_790 v144
  let v1193 : BitVec 32 := Scalar.addi c64_i32_791 v1192
  v1193
def k0_mult110 : BitVec 32 :=
  let c64_i32_795 : BitVec 32 := 64#32
  let c64_i32_794 : BitVec 32 := 64#32
  let c56_i32_789 : BitVec 32 := 56#32
  let c0_i32_788 : BitVec 32 := 0#32
  let c0_i32 : BitVec 32 := 0#32
  let c64_i32_75 : BitVec 32 := 64#32
  let v143 : BitVec 32 := Scalar.muli c0_i32 c64_i32_75
  let c54_i32 : BitVec 32 := 54#32
  let v144 : BitVec 32 := Scalar.addi v143 c54_i32
  let c4_i32_787 : BitVec 32 := 4#32
  let v1189 : BitVec 32 := Scalar.subi v144 c4_i32_787
  let v1190 : BitVec 32 := Scalar.maxsi c0_i32_788 v1189
  let v1191 : BitVec 32 := Scalar.minsi c56_i32_789 v1190
  let v1199 : BitVec 32 := Scalar.muli c64_i32_794 v1191
  let v1200 : BitVec 32 := Scalar.addi c64_i32_795 v1199
  v1200
def k0_mult111 : BitVec 32 :=
  let c64_i32_804 : BitVec 32 := 64#32
  let c64_i32_803 : BitVec 32 := 64#32
  let c0_i32 : BitVec 32 := 0#32
  let c64_i32_76 : BitVec 32 := 64#32
  let v145 : BitVec 32 := Scalar.muli c0_i32 c64_i32_76
  let c55_i32 : BitVec 32 := 55#32
  let v146 : BitVec 32 := Scalar.addi v145 c55_i32
  let v1211 : BitVec 32 := Scalar.muli c64_i32_803 v146
  let v1212 : BitVec 32 := Scalar.addi c64_i32_804 v1211
  v1212
def k0_mult112 : BitVec 32 :=
  let c64_i32_808 : BitVec 32 := 64#32
  let c64_i32_807 : BitVec 32 := 64#32
  let c56_i32_802 : BitVec 32 := 56#32
  let c0_i32_801 : BitVec 32 := 0#32
  let c0_i32 : BitVec 32 := 0#32
  let c64_i32_76 : BitVec 32 := 64#32
  let v145 : BitVec 32 := Scalar.muli c0_i32 c64_i32_76
  let c55_i32 : BitVec 32 := 55#32
  let v146 : BitVec 32 := Scalar.addi v145 c55_i32
  let c4_i32_800 : BitVec 32 := 4#32
  let v1208 : BitVec 32 := Scalar.subi v146 c4_i32_800
  let v1209 : BitVec 32 := Scalar.maxsi c0_i32_801 v1208
  let v1210 : BitVec 32 := Scalar.minsi c56_i32_802 v1209
  let v1218 : BitVec 32 := Scalar.muli c64_i32_807 v1210
  let v1219 : BitVec 32 := Scalar.addi c64_i32_808 v1218
  v1219
def k0_mult113 : BitVec 32 :=
  let c64_i32_817 : BitVec 32 := 64#32
  let c64_i32_816 : BitVec 32 := 64#32
  let c0_i32 : BitVec 32 := 0#32
  let c64_i32_77 : BitVec 32 := 64#32
  let v147 : BitVec 32 := Scalar.muli c0_i32 c64_i32_77
  let c56_i32 : BitVec 32 := 56#32
  let v148 : BitVec 32 := Scalar.addi v147 c56_i32
  let v1230 : BitVec 32 := Scalar.muli c64_i32_816 v148
  let v1231 : BitVec 32 := Scalar.addi c64_i32_817 v1230
  v1231
def k0_mult114 : BitVec 32 :=
  let c64_i32_821 : BitVec 32 := 64#32
  let c64_i32_820 : BitVec 32 := 64#32
  let c56_i32_815 : BitVec 32 := 56#32
  let c0_i32_814 : BitVec 32 := 0#32
  let c0_i32 : BitVec 32 := 0#32
  let c64_i32_77 : BitVec 32 := 64#32
  let v147 : BitVec 32 := Scalar.muli c0_i32 c64_i32_77
  let c56_i32 : BitVec 32 := 56#32
  let v148 : BitVec 32 := Scalar.addi v147 c56_i32
  let c4_i32_813 : BitVec 32 := 4#32
  let v1227 : BitVec 32 := Scalar.subi v148 c4_i32_813
  let v1228 : BitVec 32 := Scalar.maxsi c0_i32_814 v1227
  let v1229 : BitVec 32 := Scalar.minsi c56_i32_815 v1228
  let v1237 : BitVec 32 := Scalar.muli c64_i32_820 v1229
  let v1238 : BitVec 32 := Scalar.addi c64_i32_821 v1237
  v1238
def k0_mult115 : BitVec 32 :=
  let c64_i32_830 : BitVec 32 := 64#32
  let c64_i32_829 : BitVec 32 := 64#32
  let c0_i32 : BitVec 32 := 0#32
  let c64_i32_78 : BitVec 32 := 64#32
  let v149 : BitVec 32 := Scalar.muli c0_i32 c64_i32_78
  let c57_i32 : BitVec 32 := 57#32
  let v150 : BitVec 32 := Scalar.addi v149 c57_i32
  let v1249 : BitVec 32 := Scalar.muli c64_i32_829 v150
  let v1250 : BitVec 32 := Scalar.addi c64_i32_830 v1249
  v1250
def k0_mult116 : BitVec 32 :=
  let c64_i32_834 : BitVec 32 := 64#32
  let c64_i32_833 : BitVec 32 := 64#32
  let c56_i32_828 : BitVec 32 := 56#32
  let c0_i32_827 : BitVec 32 := 0#32
  let c0_i32 : BitVec 32 := 0#32
  let c64_i32_78 : BitVec 32 := 64#32
  let v149 : BitVec 32 := Scalar.muli c0_i32 c64_i32_78
  let c57_i32 : BitVec 32 := 57#32
  let v150 : BitVec 32 := Scalar.addi v149 c57_i32
  let c4_i32_826 : BitVec 32 := 4#32
  let v1246 : BitVec 32 := Scalar.subi v150 c4_i32_826
  let v1247 : BitVec 32 := Scalar.maxsi c0_i32_827 v1246
  let v1248 : BitVec 32 := Scalar.minsi c56_i32_828 v1247
  let v1256 : BitVec 32 := Scalar.muli c64_i32_833 v1248
  let v1257 : BitVec 32 := Scalar.addi c64_i32_834 v1256
  v1257
def k0_mult117 : BitVec 32 :=
  let c64_i32_843 : BitVec 32 := 64#32
  let c64_i32_842 : BitVec 32 := 64#32
  let c0_i32 : BitVec 32 := 0#32
  let c64_i32_79 : BitVec 32 := 64#32
  let v151 : BitVec 32 := Scalar.muli c0_i32 c64_i32_79
  let c58_i32 : BitVec 32 := 58#32
  let v152 : BitVec 32 := Scalar.addi v151 c58_i32
  let v1268 : BitVec 32 := Scalar.muli c64_i32_842 v152
  let v1269 : BitVec 32 := Scalar.addi c64_i32_843 v1268
  v1269
def k0_mult118 : BitVec 32 :=
  let c64_i32_847 : BitVec 32 := 64#32
  let c64_i32_846 : BitVec 32 := 64#32
  let c56_i32_841 : BitVec 32 := 56#32
  let c0_i32_840 : BitVec 32 := 0#32
  let c0_i32 : BitVec 32 := 0#32
  let c64_i32_79 : BitVec 32 := 64#32
  let v151 : BitVec 32 := Scalar.muli c0_i32 c64_i32_79
  let c58_i32 : BitVec 32 := 58#32
  let v152 : BitVec 32 := Scalar.addi v151 c58_i32
  let c4_i32_839 : BitVec 32 := 4#32
  let v1265 : BitVec 32 := Scalar.subi v152 c4_i32_839
  let v1266 : BitVec 32 := Scalar.maxsi c0_i32_840 v1265
  let v1267 : BitVec 32 := Scalar.minsi c56_i32_841 v1266
  let v1275 : BitVec 32 := Scalar.muli c64_i32_846 v1267
  let v1276 : BitVec 32 := Scalar.addi c64_i32_847 v1275
  v1276
def k0_mult119 : BitVec 32 :=
  let c64_i32_856 : BitVec 32 := 64#32
  let c64_i32_855 : BitVec 32 := 64#32
  let c0_i32 : BitVec 32 := 0#32
  let c64_i32_80 : BitVec 32 := 64#32
  let v153 : BitVec 32 := Scalar.muli c0_i32 c64_i32_80
  let c59_i32 : BitVec 32 := 59#32
  let v154 : BitVec 32 := Scalar.addi v153 c59_i32
  let v1287 : BitVec 32 := Scalar.muli c64_i32_855 v154
  let v1288 : BitVec 32 := Scalar.addi c64_i32_856 v1287
  v1288
def k0_mult120 : BitVec 32 :=
  let c64_i32_860 : BitVec 32 := 64#32
  let c64_i32_859 : BitVec 32 := 64#32
  let c56_i32_854 : BitVec 32 := 56#32
  let c0_i32_853 : BitVec 32 := 0#32
  let c0_i32 : BitVec 32 := 0#32
  let c64_i32_80 : BitVec 32 := 64#32
  let v153 : BitVec 32 := Scalar.muli c0_i32 c64_i32_80
  let c59_i32 : BitVec 32 := 59#32
  let v154 : BitVec 32 := Scalar.addi v153 c59_i32
  let c4_i32_852 : BitVec 32 := 4#32
  let v1284 : BitVec 32 := Scalar.subi v154 c4_i32_852
  let v1285 : BitVec 32 := Scalar.maxsi c0_i32_853 v1284
  let v1286 : BitVec 32 := Scalar.minsi c56_i32_854 v1285
  let v1294 : BitVec 32 := Scalar.muli c64_i32_859 v1286
  let v1295 : BitVec 32 := Scalar.addi c64_i32_860 v1294
  v1295
def k0_mult121 : BitVec 32 :=
  let c64_i32_869 : BitVec 32 := 64#32
  let c64_i32_868 : BitVec 32 := 64#32
  let c0_i32 : BitVec 32 := 0#32
  let c64_i32_81 : BitVec 32 := 64#32
  let v155 : BitVec 32 := Scalar.muli c0_i32 c64_i32_81
  let c60_i32 : BitVec 32 := 60#32
  let v156 : BitVec 32 := Scalar.addi v155 c60_i32
  let v1306 : BitVec 32 := Scalar.muli c64_i32_868 v156
  let v1307 : BitVec 32 := Scalar.addi c64_i32_869 v1306
  v1307
def k0_mult122 : BitVec 32 :=
  let c64_i32_873 : BitVec 32 := 64#32
  let c64_i32_872 : BitVec 32 := 64#32
  let c56_i32_867 : BitVec 32 := 56#32
  let c0_i32_866 : BitVec 32 := 0#32
  let c0_i32 : BitVec 32 := 0#32
  let c64_i32_81 : BitVec 32 := 64#32
  let v155 : BitVec 32 := Scalar.muli c0_i32 c64_i32_81
  let c60_i32 : BitVec 32 := 60#32
  let v156 : BitVec 32 := Scalar.addi v155 c60_i32
  let c4_i32_865 : BitVec 32 := 4#32
  let v1303 : BitVec 32 := Scalar.subi v156 c4_i32_865
  let v1304 : BitVec 32 := Scalar.maxsi c0_i32_866 v1303
  let v1305 : BitVec 32 := Scalar.minsi c56_i32_867 v1304
  let v1313 : BitVec 32 := Scalar.muli c64_i32_872 v1305
  let v1314 : BitVec 32 := Scalar.addi c64_i32_873 v1313
  v1314
def k0_mult123 : BitVec 32 :=
  let c64_i32_882 : BitVec 32 := 64#32
  let c64_i32_881 : BitVec 32 := 64#32
  let c0_i32 : BitVec 32 := 0#32
  let c64_i32_82 : BitVec 32 := 64#32
  let v157 : BitVec 32 := Scalar.muli c0_i32 c64_i32_82
  let c61_i32 : BitVec 32 := 61#32
  let v158 : BitVec 32 := Scalar.addi v157 c61_i32
  let v1325 : BitVec 32 := Scalar.muli c64_i32_881 v158
  let v1326 : BitVec 32 := Scalar.addi c64_i32_882 v1325
  v1326
def k0_mult124 : BitVec 32 :=
  let c64_i32_886 : BitVec 32 := 64#32
  let c64_i32_885 : BitVec 32 := 64#32
  let c56_i32_880 : BitVec 32 := 56#32
  let c0_i32_879 : BitVec 32 := 0#32
  let c0_i32 : BitVec 32 := 0#32
  let c64_i32_82 : BitVec 32 := 64#32
  let v157 : BitVec 32 := Scalar.muli c0_i32 c64_i32_82
  let c61_i32 : BitVec 32 := 61#32
  let v158 : BitVec 32 := Scalar.addi v157 c61_i32
  let c4_i32_878 : BitVec 32 := 4#32
  let v1322 : BitVec 32 := Scalar.subi v158 c4_i32_878
  let v1323 : BitVec 32 := Scalar.maxsi c0_i32_879 v1322
  let v1324 : BitVec 32 := Scalar.minsi c56_i32_880 v1323
  let v1332 : BitVec 32 := Scalar.muli c64_i32_885 v1324
  let v1333 : BitVec 32 := Scalar.addi c64_i32_886 v1332
  v1333
def k0_mult125 : BitVec 32 :=
  let c64_i32_895 : BitVec 32 := 64#32
  let c64_i32_894 : BitVec 32 := 64#32
  let c0_i32 : BitVec 32 := 0#32
  let c64_i32_83 : BitVec 32 := 64#32
  let v159 : BitVec 32 := Scalar.muli c0_i32 c64_i32_83
  let c62_i32 : BitVec 32 := 62#32
  let v160 : BitVec 32 := Scalar.addi v159 c62_i32
  let v1344 : BitVec 32 := Scalar.muli c64_i32_894 v160
  let v1345 : BitVec 32 := Scalar.addi c64_i32_895 v1344
  v1345
def k0_mult126 : BitVec 32 :=
  let c64_i32_899 : BitVec 32 := 64#32
  let c64_i32_898 : BitVec 32 := 64#32
  let c56_i32_893 : BitVec 32 := 56#32
  let c0_i32_892 : BitVec 32 := 0#32
  let c0_i32 : BitVec 32 := 0#32
  let c64_i32_83 : BitVec 32 := 64#32
  let v159 : BitVec 32 := Scalar.muli c0_i32 c64_i32_83
  let c62_i32 : BitVec 32 := 62#32
  let v160 : BitVec 32 := Scalar.addi v159 c62_i32
  let c4_i32_891 : BitVec 32 := 4#32
  let v1341 : BitVec 32 := Scalar.subi v160 c4_i32_891
  let v1342 : BitVec 32 := Scalar.maxsi c0_i32_892 v1341
  let v1343 : BitVec 32 := Scalar.minsi c56_i32_893 v1342
  let v1351 : BitVec 32 := Scalar.muli c64_i32_898 v1343
  let v1352 : BitVec 32 := Scalar.addi c64_i32_899 v1351
  v1352
def k0_mult127 : BitVec 32 :=
  let c64_i32_908 : BitVec 32 := 64#32
  let c64_i32_907 : BitVec 32 := 64#32
  let c0_i32 : BitVec 32 := 0#32
  let c64_i32_84 : BitVec 32 := 64#32
  let v161 : BitVec 32 := Scalar.muli c0_i32 c64_i32_84
  let c63_i32 : BitVec 32 := 63#32
  let v162 : BitVec 32 := Scalar.addi v161 c63_i32
  let v1363 : BitVec 32 := Scalar.muli c64_i32_907 v162
  let v1364 : BitVec 32 := Scalar.addi c64_i32_908 v1363
  v1364
def k0_mult128 : BitVec 32 :=
  let c64_i32_912 : BitVec 32 := 64#32
  let c64_i32_911 : BitVec 32 := 64#32
  let c56_i32_906 : BitVec 32 := 56#32
  let c0_i32_905 : BitVec 32 := 0#32
  let c0_i32 : BitVec 32 := 0#32
  let c64_i32_84 : BitVec 32 := 64#32
  let v161 : BitVec 32 := Scalar.muli c0_i32 c64_i32_84
  let c63_i32 : BitVec 32 := 63#32
  let v162 : BitVec 32 := Scalar.addi v161 c63_i32
  let c4_i32_904 : BitVec 32 := 4#32
  let v1360 : BitVec 32 := Scalar.subi v162 c4_i32_904
  let v1361 : BitVec 32 := Scalar.maxsi c0_i32_905 v1360
  let v1362 : BitVec 32 := Scalar.minsi c56_i32_906 v1361
  let v1370 : BitVec 32 := Scalar.muli c64_i32_911 v1362
  let v1371 : BitVec 32 := Scalar.addi c64_i32_912 v1370
  v1371
def k0_off3 (c0_i32_21 : BitVec 32) (c0_i32_917 : BitVec 32) : Fin 4 → Nat :=
  let c0_920 : Index := 0#32
  let c56_i32_87 : BitVec 32 := 56#32
  let c0_i32_86 : BitVec 32 := 0#32
  let c0_i32 : BitVec 32 := 0#32
  let c64_i32 : BitVec 32 := 64#32
  let v35 : BitVec 32 := Scalar.muli c0_i32 c64_i32
  let v36 : BitVec 32 := Scalar.addi v35 c0_i32_21
  let c4_i32_85 : BitVec 32 := 4#32
  let v163 : BitVec 32 := Scalar.subi v36 c4_i32_85
  let v164 : BitVec 32 := Scalar.maxsi c0_i32_86 v163
  let v165 : BitVec 32 := Scalar.minsi c56_i32_87 v164
  let v1379 : BitVec 32 := Scalar.addi v165 c0_i32_917
  let v1380 : BitVec 32 := Scalar.subi v1379 v36
  let c8_i32_918 : BitVec 32 := 8#32
  let v1381 : BitVec 32 := Scalar.addi v1380 c8_i32_918
  let c1_i32_919 : BitVec 32 := 1#32
  let v1382 : BitVec 32 := Scalar.subi v1381 c1_i32_919
  let v1383 : Index := Scalar.indexCast v1382
  let c0_921 : Index := 0#32
  let c0_922 : Index := 0#32
  ![0, v1383.toNat, 0, 0]
def k0_mult129 : BitVec 32 :=
  let c64_i32_2842 : BitVec 32 := 64#32
  let c64_i32_2841 : BitVec 32 := 64#32
  let c0_i32 : BitVec 32 := 0#32
  let c64_i32 : BitVec 32 := 64#32
  let v35 : BitVec 32 := Scalar.muli c0_i32 c64_i32
  let c0_i32_21 : BitVec 32 := 0#32
  let v36 : BitVec 32 := Scalar.addi v35 c0_i32_21
  let v4845 : BitVec 32 := Scalar.muli c64_i32_2841 v36
  let v4846 : BitVec 32 := Scalar.addi c64_i32_2842 v4845
  v4846
def k0_mult130 : BitVec 32 :=
  let c64_i32_2850 : BitVec 32 := 64#32
  let c64_i32_2849 : BitVec 32 := 64#32
  let c0_i32 : BitVec 32 := 0#32
  let c64_i32_22 : BitVec 32 := 64#32
  let v37 : BitVec 32 := Scalar.muli c0_i32 c64_i32_22
  let c1_i32 : BitVec 32 := 1#32
  let v38 : BitVec 32 := Scalar.addi v37 c1_i32
  let v4862 : BitVec 32 := Scalar.muli c64_i32_2849 v38
  let v4863 : BitVec 32 := Scalar.addi c64_i32_2850 v4862
  v4863
def k0_mult131 : BitVec 32 :=
  let c64_i32_2858 : BitVec 32 := 64#32
  let c64_i32_2857 : BitVec 32 := 64#32
  let c0_i32 : BitVec 32 := 0#32
  let c64_i32_23 : BitVec 32 := 64#32
  let v39 : BitVec 32 := Scalar.muli c0_i32 c64_i32_23
  let c2_i32 : BitVec 32 := 2#32
  let v40 : BitVec 32 := Scalar.addi v39 c2_i32
  let v4879 : BitVec 32 := Scalar.muli c64_i32_2857 v40
  let v4880 : BitVec 32 := Scalar.addi c64_i32_2858 v4879
  v4880
def k0_mult132 : BitVec 32 :=
  let c64_i32_2866 : BitVec 32 := 64#32
  let c64_i32_2865 : BitVec 32 := 64#32
  let c0_i32 : BitVec 32 := 0#32
  let c64_i32_24 : BitVec 32 := 64#32
  let v41 : BitVec 32 := Scalar.muli c0_i32 c64_i32_24
  let c3_i32 : BitVec 32 := 3#32
  let v42 : BitVec 32 := Scalar.addi v41 c3_i32
  let v4896 : BitVec 32 := Scalar.muli c64_i32_2865 v42
  let v4897 : BitVec 32 := Scalar.addi c64_i32_2866 v4896
  v4897
def k0_mult133 : BitVec 32 :=
  let c64_i32_2874 : BitVec 32 := 64#32
  let c64_i32_2873 : BitVec 32 := 64#32
  let c0_i32 : BitVec 32 := 0#32
  let c64_i32_25 : BitVec 32 := 64#32
  let v43 : BitVec 32 := Scalar.muli c0_i32 c64_i32_25
  let c4_i32 : BitVec 32 := 4#32
  let v44 : BitVec 32 := Scalar.addi v43 c4_i32
  let v4913 : BitVec 32 := Scalar.muli c64_i32_2873 v44
  let v4914 : BitVec 32 := Scalar.addi c64_i32_2874 v4913
  v4914
def k0_mult134 : BitVec 32 :=
  let c64_i32_2882 : BitVec 32 := 64#32
  let c64_i32_2881 : BitVec 32 := 64#32
  let c0_i32 : BitVec 32 := 0#32
  let c64_i32_26 : BitVec 32 := 64#32
  let v45 : BitVec 32 := Scalar.muli c0_i32 c64_i32_26
  let c5_i32 : BitVec 32 := 5#32
  let v46 : BitVec 32 := Scalar.addi v45 c5_i32
  let v4930 : BitVec 32 := Scalar.muli c64_i32_2881 v46
  let v4931 : BitVec 32 := Scalar.addi c64_i32_2882 v4930
  v4931
def k0_mult135 : BitVec 32 :=
  let c64_i32_2890 : BitVec 32 := 64#32
  let c64_i32_2889 : BitVec 32 := 64#32
  let c0_i32 : BitVec 32 := 0#32
  let c64_i32_27 : BitVec 32 := 64#32
  let v47 : BitVec 32 := Scalar.muli c0_i32 c64_i32_27
  let c6_i32 : BitVec 32 := 6#32
  let v48 : BitVec 32 := Scalar.addi v47 c6_i32
  let v4947 : BitVec 32 := Scalar.muli c64_i32_2889 v48
  let v4948 : BitVec 32 := Scalar.addi c64_i32_2890 v4947
  v4948
def k0_mult136 : BitVec 32 :=
  let c64_i32_2898 : BitVec 32 := 64#32
  let c64_i32_2897 : BitVec 32 := 64#32
  let c0_i32 : BitVec 32 := 0#32
  let c64_i32_28 : BitVec 32 := 64#32
  let v49 : BitVec 32 := Scalar.muli c0_i32 c64_i32_28
  let c7_i32 : BitVec 32 := 7#32
  let v50 : BitVec 32 := Scalar.addi v49 c7_i32
  let v4964 : BitVec 32 := Scalar.muli c64_i32_2897 v50
  let v4965 : BitVec 32 := Scalar.addi c64_i32_2898 v4964
  v4965
def k0_mult137 : BitVec 32 :=
  let c64_i32_2906 : BitVec 32 := 64#32
  let c64_i32_2905 : BitVec 32 := 64#32
  let c0_i32 : BitVec 32 := 0#32
  let c64_i32_29 : BitVec 32 := 64#32
  let v51 : BitVec 32 := Scalar.muli c0_i32 c64_i32_29
  let c8_i32 : BitVec 32 := 8#32
  let v52 : BitVec 32 := Scalar.addi v51 c8_i32
  let v4981 : BitVec 32 := Scalar.muli c64_i32_2905 v52
  let v4982 : BitVec 32 := Scalar.addi c64_i32_2906 v4981
  v4982
def k0_mult138 : BitVec 32 :=
  let c64_i32_2914 : BitVec 32 := 64#32
  let c64_i32_2913 : BitVec 32 := 64#32
  let c0_i32 : BitVec 32 := 0#32
  let c64_i32_30 : BitVec 32 := 64#32
  let v53 : BitVec 32 := Scalar.muli c0_i32 c64_i32_30
  let c9_i32 : BitVec 32 := 9#32
  let v54 : BitVec 32 := Scalar.addi v53 c9_i32
  let v4998 : BitVec 32 := Scalar.muli c64_i32_2913 v54
  let v4999 : BitVec 32 := Scalar.addi c64_i32_2914 v4998
  v4999
def k0_mult139 : BitVec 32 :=
  let c64_i32_2922 : BitVec 32 := 64#32
  let c64_i32_2921 : BitVec 32 := 64#32
  let c0_i32 : BitVec 32 := 0#32
  let c64_i32_31 : BitVec 32 := 64#32
  let v55 : BitVec 32 := Scalar.muli c0_i32 c64_i32_31
  let c10_i32 : BitVec 32 := 10#32
  let v56 : BitVec 32 := Scalar.addi v55 c10_i32
  let v5015 : BitVec 32 := Scalar.muli c64_i32_2921 v56
  let v5016 : BitVec 32 := Scalar.addi c64_i32_2922 v5015
  v5016
def k0_mult140 : BitVec 32 :=
  let c64_i32_2930 : BitVec 32 := 64#32
  let c64_i32_2929 : BitVec 32 := 64#32
  let c0_i32 : BitVec 32 := 0#32
  let c64_i32_32 : BitVec 32 := 64#32
  let v57 : BitVec 32 := Scalar.muli c0_i32 c64_i32_32
  let c11_i32 : BitVec 32 := 11#32
  let v58 : BitVec 32 := Scalar.addi v57 c11_i32
  let v5032 : BitVec 32 := Scalar.muli c64_i32_2929 v58
  let v5033 : BitVec 32 := Scalar.addi c64_i32_2930 v5032
  v5033
def k0_mult141 : BitVec 32 :=
  let c64_i32_2938 : BitVec 32 := 64#32
  let c64_i32_2937 : BitVec 32 := 64#32
  let c0_i32 : BitVec 32 := 0#32
  let c64_i32_33 : BitVec 32 := 64#32
  let v59 : BitVec 32 := Scalar.muli c0_i32 c64_i32_33
  let c12_i32 : BitVec 32 := 12#32
  let v60 : BitVec 32 := Scalar.addi v59 c12_i32
  let v5049 : BitVec 32 := Scalar.muli c64_i32_2937 v60
  let v5050 : BitVec 32 := Scalar.addi c64_i32_2938 v5049
  v5050
def k0_mult142 : BitVec 32 :=
  let c64_i32_2946 : BitVec 32 := 64#32
  let c64_i32_2945 : BitVec 32 := 64#32
  let c0_i32 : BitVec 32 := 0#32
  let c64_i32_34 : BitVec 32 := 64#32
  let v61 : BitVec 32 := Scalar.muli c0_i32 c64_i32_34
  let c13_i32 : BitVec 32 := 13#32
  let v62 : BitVec 32 := Scalar.addi v61 c13_i32
  let v5066 : BitVec 32 := Scalar.muli c64_i32_2945 v62
  let v5067 : BitVec 32 := Scalar.addi c64_i32_2946 v5066
  v5067
def k0_mult143 : BitVec 32 :=
  let c64_i32_2954 : BitVec 32 := 64#32
  let c64_i32_2953 : BitVec 32 := 64#32
  let c0_i32 : BitVec 32 := 0#32
  let c64_i32_35 : BitVec 32 := 64#32
  let v63 : BitVec 32 := Scalar.muli c0_i32 c64_i32_35
  let c14_i32 : BitVec 32 := 14#32
  let v64 : BitVec 32 := Scalar.addi v63 c14_i32
  let v5083 : BitVec 32 := Scalar.muli c64_i32_2953 v64
  let v5084 : BitVec 32 := Scalar.addi c64_i32_2954 v5083
  v5084
def k0_mult144 : BitVec 32 :=
  let c64_i32_2962 : BitVec 32 := 64#32
  let c64_i32_2961 : BitVec 32 := 64#32
  let c0_i32 : BitVec 32 := 0#32
  let c64_i32_36 : BitVec 32 := 64#32
  let v65 : BitVec 32 := Scalar.muli c0_i32 c64_i32_36
  let c15_i32 : BitVec 32 := 15#32
  let v66 : BitVec 32 := Scalar.addi v65 c15_i32
  let v5100 : BitVec 32 := Scalar.muli c64_i32_2961 v66
  let v5101 : BitVec 32 := Scalar.addi c64_i32_2962 v5100
  v5101
def k0_mult145 : BitVec 32 :=
  let c64_i32_2970 : BitVec 32 := 64#32
  let c64_i32_2969 : BitVec 32 := 64#32
  let c0_i32 : BitVec 32 := 0#32
  let c64_i32_37 : BitVec 32 := 64#32
  let v67 : BitVec 32 := Scalar.muli c0_i32 c64_i32_37
  let c16_i32 : BitVec 32 := 16#32
  let v68 : BitVec 32 := Scalar.addi v67 c16_i32
  let v5117 : BitVec 32 := Scalar.muli c64_i32_2969 v68
  let v5118 : BitVec 32 := Scalar.addi c64_i32_2970 v5117
  v5118
def k0_mult146 : BitVec 32 :=
  let c64_i32_2978 : BitVec 32 := 64#32
  let c64_i32_2977 : BitVec 32 := 64#32
  let c0_i32 : BitVec 32 := 0#32
  let c64_i32_38 : BitVec 32 := 64#32
  let v69 : BitVec 32 := Scalar.muli c0_i32 c64_i32_38
  let c17_i32 : BitVec 32 := 17#32
  let v70 : BitVec 32 := Scalar.addi v69 c17_i32
  let v5134 : BitVec 32 := Scalar.muli c64_i32_2977 v70
  let v5135 : BitVec 32 := Scalar.addi c64_i32_2978 v5134
  v5135
def k0_mult147 : BitVec 32 :=
  let c64_i32_2986 : BitVec 32 := 64#32
  let c64_i32_2985 : BitVec 32 := 64#32
  let c0_i32 : BitVec 32 := 0#32
  let c64_i32_39 : BitVec 32 := 64#32
  let v71 : BitVec 32 := Scalar.muli c0_i32 c64_i32_39
  let c18_i32 : BitVec 32 := 18#32
  let v72 : BitVec 32 := Scalar.addi v71 c18_i32
  let v5151 : BitVec 32 := Scalar.muli c64_i32_2985 v72
  let v5152 : BitVec 32 := Scalar.addi c64_i32_2986 v5151
  v5152
def k0_mult148 : BitVec 32 :=
  let c64_i32_2994 : BitVec 32 := 64#32
  let c64_i32_2993 : BitVec 32 := 64#32
  let c0_i32 : BitVec 32 := 0#32
  let c64_i32_40 : BitVec 32 := 64#32
  let v73 : BitVec 32 := Scalar.muli c0_i32 c64_i32_40
  let c19_i32 : BitVec 32 := 19#32
  let v74 : BitVec 32 := Scalar.addi v73 c19_i32
  let v5168 : BitVec 32 := Scalar.muli c64_i32_2993 v74
  let v5169 : BitVec 32 := Scalar.addi c64_i32_2994 v5168
  v5169
def k0_mult149 : BitVec 32 :=
  let c64_i32_3002 : BitVec 32 := 64#32
  let c64_i32_3001 : BitVec 32 := 64#32
  let c0_i32 : BitVec 32 := 0#32
  let c64_i32_41 : BitVec 32 := 64#32
  let v75 : BitVec 32 := Scalar.muli c0_i32 c64_i32_41
  let c20_i32 : BitVec 32 := 20#32
  let v76 : BitVec 32 := Scalar.addi v75 c20_i32
  let v5185 : BitVec 32 := Scalar.muli c64_i32_3001 v76
  let v5186 : BitVec 32 := Scalar.addi c64_i32_3002 v5185
  v5186
def k0_mult150 : BitVec 32 :=
  let c64_i32_3010 : BitVec 32 := 64#32
  let c64_i32_3009 : BitVec 32 := 64#32
  let c0_i32 : BitVec 32 := 0#32
  let c64_i32_42 : BitVec 32 := 64#32
  let v77 : BitVec 32 := Scalar.muli c0_i32 c64_i32_42
  let c21_i32 : BitVec 32 := 21#32
  let v78 : BitVec 32 := Scalar.addi v77 c21_i32
  let v5202 : BitVec 32 := Scalar.muli c64_i32_3009 v78
  let v5203 : BitVec 32 := Scalar.addi c64_i32_3010 v5202
  v5203
def k0_mult151 : BitVec 32 :=
  let c64_i32_3018 : BitVec 32 := 64#32
  let c64_i32_3017 : BitVec 32 := 64#32
  let c0_i32 : BitVec 32 := 0#32
  let c64_i32_43 : BitVec 32 := 64#32
  let v79 : BitVec 32 := Scalar.muli c0_i32 c64_i32_43
  let c22_i32 : BitVec 32 := 22#32
  let v80 : BitVec 32 := Scalar.addi v79 c22_i32
  let v5219 : BitVec 32 := Scalar.muli c64_i32_3017 v80
  let v5220 : BitVec 32 := Scalar.addi c64_i32_3018 v5219
  v5220
def k0_mult152 : BitVec 32 :=
  let c64_i32_3026 : BitVec 32 := 64#32
  let c64_i32_3025 : BitVec 32 := 64#32
  let c0_i32 : BitVec 32 := 0#32
  let c64_i32_44 : BitVec 32 := 64#32
  let v81 : BitVec 32 := Scalar.muli c0_i32 c64_i32_44
  let c23_i32 : BitVec 32 := 23#32
  let v82 : BitVec 32 := Scalar.addi v81 c23_i32
  let v5236 : BitVec 32 := Scalar.muli c64_i32_3025 v82
  let v5237 : BitVec 32 := Scalar.addi c64_i32_3026 v5236
  v5237
def k0_mult153 : BitVec 32 :=
  let c64_i32_3034 : BitVec 32 := 64#32
  let c64_i32_3033 : BitVec 32 := 64#32
  let c0_i32 : BitVec 32 := 0#32
  let c64_i32_45 : BitVec 32 := 64#32
  let v83 : BitVec 32 := Scalar.muli c0_i32 c64_i32_45
  let c24_i32 : BitVec 32 := 24#32
  let v84 : BitVec 32 := Scalar.addi v83 c24_i32
  let v5253 : BitVec 32 := Scalar.muli c64_i32_3033 v84
  let v5254 : BitVec 32 := Scalar.addi c64_i32_3034 v5253
  v5254
def k0_mult154 : BitVec 32 :=
  let c64_i32_3042 : BitVec 32 := 64#32
  let c64_i32_3041 : BitVec 32 := 64#32
  let c0_i32 : BitVec 32 := 0#32
  let c64_i32_46 : BitVec 32 := 64#32
  let v85 : BitVec 32 := Scalar.muli c0_i32 c64_i32_46
  let c25_i32 : BitVec 32 := 25#32
  let v86 : BitVec 32 := Scalar.addi v85 c25_i32
  let v5270 : BitVec 32 := Scalar.muli c64_i32_3041 v86
  let v5271 : BitVec 32 := Scalar.addi c64_i32_3042 v5270
  v5271
def k0_mult155 : BitVec 32 :=
  let c64_i32_3050 : BitVec 32 := 64#32
  let c64_i32_3049 : BitVec 32 := 64#32
  let c0_i32 : BitVec 32 := 0#32
  let c64_i32_47 : BitVec 32 := 64#32
  let v87 : BitVec 32 := Scalar.muli c0_i32 c64_i32_47
  let c26_i32 : BitVec 32 := 26#32
  let v88 : BitVec 32 := Scalar.addi v87 c26_i32
  let v5287 : BitVec 32 := Scalar.muli c64_i32_3049 v88
  let v5288 : BitVec 32 := Scalar.addi c64_i32_3050 v5287
  v5288
def k0_mult156 : BitVec 32 :=
  let c64_i32_3058 : BitVec 32 := 64#32
  let c64_i32_3057 : BitVec 32 := 64#32
  let c0_i32 : BitVec 32 := 0#32
  let c64_i32_48 : BitVec 32 := 64#32
  let v89 : BitVec 32 := Scalar.muli c0_i32 c64_i32_48
  let c27_i32 : BitVec 32 := 27#32
  let v90 : BitVec 32 := Scalar.addi v89 c27_i32
  let v5304 : BitVec 32 := Scalar.muli c64_i32_3057 v90
  let v5305 : BitVec 32 := Scalar.addi c64_i32_3058 v5304
  v5305
def k0_mult157 : BitVec 32 :=
  let c64_i32_3066 : BitVec 32 := 64#32
  let c64_i32_3065 : BitVec 32 := 64#32
  let c0_i32 : BitVec 32 := 0#32
  let c64_i32_49 : BitVec 32 := 64#32
  let v91 : BitVec 32 := Scalar.muli c0_i32 c64_i32_49
  let c28_i32 : BitVec 32 := 28#32
  let v92 : BitVec 32 := Scalar.addi v91 c28_i32
  let v5321 : BitVec 32 := Scalar.muli c64_i32_3065 v92
  let v5322 : BitVec 32 := Scalar.addi c64_i32_3066 v5321
  v5322
def k0_mult158 : BitVec 32 :=
  let c64_i32_3074 : BitVec 32 := 64#32
  let c64_i32_3073 : BitVec 32 := 64#32
  let c0_i32 : BitVec 32 := 0#32
  let c64_i32_50 : BitVec 32 := 64#32
  let v93 : BitVec 32 := Scalar.muli c0_i32 c64_i32_50
  let c29_i32 : BitVec 32 := 29#32
  let v94 : BitVec 32 := Scalar.addi v93 c29_i32
  let v5338 : BitVec 32 := Scalar.muli c64_i32_3073 v94
  let v5339 : BitVec 32 := Scalar.addi c64_i32_3074 v5338
  v5339
def k0_mult159 : BitVec 32 :=
  let c64_i32_3082 : BitVec 32 := 64#32
  let c64_i32_3081 : BitVec 32 := 64#32
  let c0_i32 : BitVec 32 := 0#32
  let c64_i32_51 : BitVec 32 := 64#32
  let v95 : BitVec 32 := Scalar.muli c0_i32 c64_i32_51
  let c30_i32 : BitVec 32 := 30#32
  let v96 : BitVec 32 := Scalar.addi v95 c30_i32
  let v5355 : BitVec 32 := Scalar.muli c64_i32_3081 v96
  let v5356 : BitVec 32 := Scalar.addi c64_i32_3082 v5355
  v5356
def k0_mult160 : BitVec 32 :=
  let c64_i32_3090 : BitVec 32 := 64#32
  let c64_i32_3089 : BitVec 32 := 64#32
  let c0_i32 : BitVec 32 := 0#32
  let c64_i32_52 : BitVec 32 := 64#32
  let v97 : BitVec 32 := Scalar.muli c0_i32 c64_i32_52
  let c31_i32 : BitVec 32 := 31#32
  let v98 : BitVec 32 := Scalar.addi v97 c31_i32
  let v5372 : BitVec 32 := Scalar.muli c64_i32_3089 v98
  let v5373 : BitVec 32 := Scalar.addi c64_i32_3090 v5372
  v5373
def k0_mult161 : BitVec 32 :=
  let c64_i32_3098 : BitVec 32 := 64#32
  let c64_i32_3097 : BitVec 32 := 64#32
  let c0_i32 : BitVec 32 := 0#32
  let c64_i32_53 : BitVec 32 := 64#32
  let v99 : BitVec 32 := Scalar.muli c0_i32 c64_i32_53
  let c32_i32 : BitVec 32 := 32#32
  let v100 : BitVec 32 := Scalar.addi v99 c32_i32
  let v5389 : BitVec 32 := Scalar.muli c64_i32_3097 v100
  let v5390 : BitVec 32 := Scalar.addi c64_i32_3098 v5389
  v5390
def k0_mult162 : BitVec 32 :=
  let c64_i32_3106 : BitVec 32 := 64#32
  let c64_i32_3105 : BitVec 32 := 64#32
  let c0_i32 : BitVec 32 := 0#32
  let c64_i32_54 : BitVec 32 := 64#32
  let v101 : BitVec 32 := Scalar.muli c0_i32 c64_i32_54
  let c33_i32 : BitVec 32 := 33#32
  let v102 : BitVec 32 := Scalar.addi v101 c33_i32
  let v5406 : BitVec 32 := Scalar.muli c64_i32_3105 v102
  let v5407 : BitVec 32 := Scalar.addi c64_i32_3106 v5406
  v5407
def k0_mult163 : BitVec 32 :=
  let c64_i32_3114 : BitVec 32 := 64#32
  let c64_i32_3113 : BitVec 32 := 64#32
  let c0_i32 : BitVec 32 := 0#32
  let c64_i32_55 : BitVec 32 := 64#32
  let v103 : BitVec 32 := Scalar.muli c0_i32 c64_i32_55
  let c34_i32 : BitVec 32 := 34#32
  let v104 : BitVec 32 := Scalar.addi v103 c34_i32
  let v5423 : BitVec 32 := Scalar.muli c64_i32_3113 v104
  let v5424 : BitVec 32 := Scalar.addi c64_i32_3114 v5423
  v5424
def k0_mult164 : BitVec 32 :=
  let c64_i32_3122 : BitVec 32 := 64#32
  let c64_i32_3121 : BitVec 32 := 64#32
  let c0_i32 : BitVec 32 := 0#32
  let c64_i32_56 : BitVec 32 := 64#32
  let v105 : BitVec 32 := Scalar.muli c0_i32 c64_i32_56
  let c35_i32 : BitVec 32 := 35#32
  let v106 : BitVec 32 := Scalar.addi v105 c35_i32
  let v5440 : BitVec 32 := Scalar.muli c64_i32_3121 v106
  let v5441 : BitVec 32 := Scalar.addi c64_i32_3122 v5440
  v5441
def k0_mult165 : BitVec 32 :=
  let c64_i32_3130 : BitVec 32 := 64#32
  let c64_i32_3129 : BitVec 32 := 64#32
  let c0_i32 : BitVec 32 := 0#32
  let c64_i32_57 : BitVec 32 := 64#32
  let v107 : BitVec 32 := Scalar.muli c0_i32 c64_i32_57
  let c36_i32 : BitVec 32 := 36#32
  let v108 : BitVec 32 := Scalar.addi v107 c36_i32
  let v5457 : BitVec 32 := Scalar.muli c64_i32_3129 v108
  let v5458 : BitVec 32 := Scalar.addi c64_i32_3130 v5457
  v5458
def k0_mult166 : BitVec 32 :=
  let c64_i32_3138 : BitVec 32 := 64#32
  let c64_i32_3137 : BitVec 32 := 64#32
  let c0_i32 : BitVec 32 := 0#32
  let c64_i32_58 : BitVec 32 := 64#32
  let v109 : BitVec 32 := Scalar.muli c0_i32 c64_i32_58
  let c37_i32 : BitVec 32 := 37#32
  let v110 : BitVec 32 := Scalar.addi v109 c37_i32
  let v5474 : BitVec 32 := Scalar.muli c64_i32_3137 v110
  let v5475 : BitVec 32 := Scalar.addi c64_i32_3138 v5474
  v5475
def k0_mult167 : BitVec 32 :=
  let c64_i32_3146 : BitVec 32 := 64#32
  let c64_i32_3145 : BitVec 32 := 64#32
  let c0_i32 : BitVec 32 := 0#32
  let c64_i32_59 : BitVec 32 := 64#32
  let v111 : BitVec 32 := Scalar.muli c0_i32 c64_i32_59
  let c38_i32 : BitVec 32 := 38#32
  let v112 : BitVec 32 := Scalar.addi v111 c38_i32
  let v5491 : BitVec 32 := Scalar.muli c64_i32_3145 v112
  let v5492 : BitVec 32 := Scalar.addi c64_i32_3146 v5491
  v5492
def k0_mult168 : BitVec 32 :=
  let c64_i32_3154 : BitVec 32 := 64#32
  let c64_i32_3153 : BitVec 32 := 64#32
  let c0_i32 : BitVec 32 := 0#32
  let c64_i32_60 : BitVec 32 := 64#32
  let v113 : BitVec 32 := Scalar.muli c0_i32 c64_i32_60
  let c39_i32 : BitVec 32 := 39#32
  let v114 : BitVec 32 := Scalar.addi v113 c39_i32
  let v5508 : BitVec 32 := Scalar.muli c64_i32_3153 v114
  let v5509 : BitVec 32 := Scalar.addi c64_i32_3154 v5508
  v5509
def k0_mult169 : BitVec 32 :=
  let c64_i32_3162 : BitVec 32 := 64#32
  let c64_i32_3161 : BitVec 32 := 64#32
  let c0_i32 : BitVec 32 := 0#32
  let c64_i32_61 : BitVec 32 := 64#32
  let v115 : BitVec 32 := Scalar.muli c0_i32 c64_i32_61
  let c40_i32 : BitVec 32 := 40#32
  let v116 : BitVec 32 := Scalar.addi v115 c40_i32
  let v5525 : BitVec 32 := Scalar.muli c64_i32_3161 v116
  let v5526 : BitVec 32 := Scalar.addi c64_i32_3162 v5525
  v5526
def k0_mult170 : BitVec 32 :=
  let c64_i32_3170 : BitVec 32 := 64#32
  let c64_i32_3169 : BitVec 32 := 64#32
  let c0_i32 : BitVec 32 := 0#32
  let c64_i32_62 : BitVec 32 := 64#32
  let v117 : BitVec 32 := Scalar.muli c0_i32 c64_i32_62
  let c41_i32 : BitVec 32 := 41#32
  let v118 : BitVec 32 := Scalar.addi v117 c41_i32
  let v5542 : BitVec 32 := Scalar.muli c64_i32_3169 v118
  let v5543 : BitVec 32 := Scalar.addi c64_i32_3170 v5542
  v5543
def k0_mult171 : BitVec 32 :=
  let c64_i32_3178 : BitVec 32 := 64#32
  let c64_i32_3177 : BitVec 32 := 64#32
  let c0_i32 : BitVec 32 := 0#32
  let c64_i32_63 : BitVec 32 := 64#32
  let v119 : BitVec 32 := Scalar.muli c0_i32 c64_i32_63
  let c42_i32 : BitVec 32 := 42#32
  let v120 : BitVec 32 := Scalar.addi v119 c42_i32
  let v5559 : BitVec 32 := Scalar.muli c64_i32_3177 v120
  let v5560 : BitVec 32 := Scalar.addi c64_i32_3178 v5559
  v5560
def k0_mult172 : BitVec 32 :=
  let c64_i32_3186 : BitVec 32 := 64#32
  let c64_i32_3185 : BitVec 32 := 64#32
  let c0_i32 : BitVec 32 := 0#32
  let c64_i32_64 : BitVec 32 := 64#32
  let v121 : BitVec 32 := Scalar.muli c0_i32 c64_i32_64
  let c43_i32 : BitVec 32 := 43#32
  let v122 : BitVec 32 := Scalar.addi v121 c43_i32
  let v5576 : BitVec 32 := Scalar.muli c64_i32_3185 v122
  let v5577 : BitVec 32 := Scalar.addi c64_i32_3186 v5576
  v5577
def k0_mult173 : BitVec 32 :=
  let c64_i32_3194 : BitVec 32 := 64#32
  let c64_i32_3193 : BitVec 32 := 64#32
  let c0_i32 : BitVec 32 := 0#32
  let c64_i32_65 : BitVec 32 := 64#32
  let v123 : BitVec 32 := Scalar.muli c0_i32 c64_i32_65
  let c44_i32 : BitVec 32 := 44#32
  let v124 : BitVec 32 := Scalar.addi v123 c44_i32
  let v5593 : BitVec 32 := Scalar.muli c64_i32_3193 v124
  let v5594 : BitVec 32 := Scalar.addi c64_i32_3194 v5593
  v5594
def k0_mult174 : BitVec 32 :=
  let c64_i32_3202 : BitVec 32 := 64#32
  let c64_i32_3201 : BitVec 32 := 64#32
  let c0_i32 : BitVec 32 := 0#32
  let c64_i32_66 : BitVec 32 := 64#32
  let v125 : BitVec 32 := Scalar.muli c0_i32 c64_i32_66
  let c45_i32 : BitVec 32 := 45#32
  let v126 : BitVec 32 := Scalar.addi v125 c45_i32
  let v5610 : BitVec 32 := Scalar.muli c64_i32_3201 v126
  let v5611 : BitVec 32 := Scalar.addi c64_i32_3202 v5610
  v5611
def k0_mult175 : BitVec 32 :=
  let c64_i32_3210 : BitVec 32 := 64#32
  let c64_i32_3209 : BitVec 32 := 64#32
  let c0_i32 : BitVec 32 := 0#32
  let c64_i32_67 : BitVec 32 := 64#32
  let v127 : BitVec 32 := Scalar.muli c0_i32 c64_i32_67
  let c46_i32 : BitVec 32 := 46#32
  let v128 : BitVec 32 := Scalar.addi v127 c46_i32
  let v5627 : BitVec 32 := Scalar.muli c64_i32_3209 v128
  let v5628 : BitVec 32 := Scalar.addi c64_i32_3210 v5627
  v5628
def k0_mult176 : BitVec 32 :=
  let c64_i32_3218 : BitVec 32 := 64#32
  let c64_i32_3217 : BitVec 32 := 64#32
  let c0_i32 : BitVec 32 := 0#32
  let c64_i32_68 : BitVec 32 := 64#32
  let v129 : BitVec 32 := Scalar.muli c0_i32 c64_i32_68
  let c47_i32 : BitVec 32 := 47#32
  let v130 : BitVec 32 := Scalar.addi v129 c47_i32
  let v5644 : BitVec 32 := Scalar.muli c64_i32_3217 v130
  let v5645 : BitVec 32 := Scalar.addi c64_i32_3218 v5644
  v5645
def k0_mult177 : BitVec 32 :=
  let c64_i32_3226 : BitVec 32 := 64#32
  let c64_i32_3225 : BitVec 32 := 64#32
  let c0_i32 : BitVec 32 := 0#32
  let c64_i32_69 : BitVec 32 := 64#32
  let v131 : BitVec 32 := Scalar.muli c0_i32 c64_i32_69
  let c48_i32 : BitVec 32 := 48#32
  let v132 : BitVec 32 := Scalar.addi v131 c48_i32
  let v5661 : BitVec 32 := Scalar.muli c64_i32_3225 v132
  let v5662 : BitVec 32 := Scalar.addi c64_i32_3226 v5661
  v5662
def k0_mult178 : BitVec 32 :=
  let c64_i32_3234 : BitVec 32 := 64#32
  let c64_i32_3233 : BitVec 32 := 64#32
  let c0_i32 : BitVec 32 := 0#32
  let c64_i32_70 : BitVec 32 := 64#32
  let v133 : BitVec 32 := Scalar.muli c0_i32 c64_i32_70
  let c49_i32 : BitVec 32 := 49#32
  let v134 : BitVec 32 := Scalar.addi v133 c49_i32
  let v5678 : BitVec 32 := Scalar.muli c64_i32_3233 v134
  let v5679 : BitVec 32 := Scalar.addi c64_i32_3234 v5678
  v5679
def k0_mult179 : BitVec 32 :=
  let c64_i32_3242 : BitVec 32 := 64#32
  let c64_i32_3241 : BitVec 32 := 64#32
  let c0_i32 : BitVec 32 := 0#32
  let c64_i32_71 : BitVec 32 := 64#32
  let v135 : BitVec 32 := Scalar.muli c0_i32 c64_i32_71
  let c50_i32 : BitVec 32 := 50#32
  let v136 : BitVec 32 := Scalar.addi v135 c50_i32
  let v5695 : BitVec 32 := Scalar.muli c64_i32_3241 v136
  let v5696 : BitVec 32 := Scalar.addi c64_i32_3242 v5695
  v5696
def k0_mult180 : BitVec 32 :=
  let c64_i32_3250 : BitVec 32 := 64#32
  let c64_i32_3249 : BitVec 32 := 64#32
  let c0_i32 : BitVec 32 := 0#32
  let c64_i32_72 : BitVec 32 := 64#32
  let v137 : BitVec 32 := Scalar.muli c0_i32 c64_i32_72
  let c51_i32 : BitVec 32 := 51#32
  let v138 : BitVec 32 := Scalar.addi v137 c51_i32
  let v5712 : BitVec 32 := Scalar.muli c64_i32_3249 v138
  let v5713 : BitVec 32 := Scalar.addi c64_i32_3250 v5712
  v5713
def k0_mult181 : BitVec 32 :=
  let c64_i32_3258 : BitVec 32 := 64#32
  let c64_i32_3257 : BitVec 32 := 64#32
  let c0_i32 : BitVec 32 := 0#32
  let c64_i32_73 : BitVec 32 := 64#32
  let v139 : BitVec 32 := Scalar.muli c0_i32 c64_i32_73
  let c52_i32 : BitVec 32 := 52#32
  let v140 : BitVec 32 := Scalar.addi v139 c52_i32
  let v5729 : BitVec 32 := Scalar.muli c64_i32_3257 v140
  let v5730 : BitVec 32 := Scalar.addi c64_i32_3258 v5729
  v5730
def k0_mult182 : BitVec 32 :=
  let c64_i32_3266 : BitVec 32 := 64#32
  let c64_i32_3265 : BitVec 32 := 64#32
  let c0_i32 : BitVec 32 := 0#32
  let c64_i32_74 : BitVec 32 := 64#32
  let v141 : BitVec 32 := Scalar.muli c0_i32 c64_i32_74
  let c53_i32 : BitVec 32 := 53#32
  let v142 : BitVec 32 := Scalar.addi v141 c53_i32
  let v5746 : BitVec 32 := Scalar.muli c64_i32_3265 v142
  let v5747 : BitVec 32 := Scalar.addi c64_i32_3266 v5746
  v5747
def k0_mult183 : BitVec 32 :=
  let c64_i32_3274 : BitVec 32 := 64#32
  let c64_i32_3273 : BitVec 32 := 64#32
  let c0_i32 : BitVec 32 := 0#32
  let c64_i32_75 : BitVec 32 := 64#32
  let v143 : BitVec 32 := Scalar.muli c0_i32 c64_i32_75
  let c54_i32 : BitVec 32 := 54#32
  let v144 : BitVec 32 := Scalar.addi v143 c54_i32
  let v5763 : BitVec 32 := Scalar.muli c64_i32_3273 v144
  let v5764 : BitVec 32 := Scalar.addi c64_i32_3274 v5763
  v5764
def k0_mult184 : BitVec 32 :=
  let c64_i32_3282 : BitVec 32 := 64#32
  let c64_i32_3281 : BitVec 32 := 64#32
  let c0_i32 : BitVec 32 := 0#32
  let c64_i32_76 : BitVec 32 := 64#32
  let v145 : BitVec 32 := Scalar.muli c0_i32 c64_i32_76
  let c55_i32 : BitVec 32 := 55#32
  let v146 : BitVec 32 := Scalar.addi v145 c55_i32
  let v5780 : BitVec 32 := Scalar.muli c64_i32_3281 v146
  let v5781 : BitVec 32 := Scalar.addi c64_i32_3282 v5780
  v5781
def k0_mult185 : BitVec 32 :=
  let c64_i32_3290 : BitVec 32 := 64#32
  let c64_i32_3289 : BitVec 32 := 64#32
  let c0_i32 : BitVec 32 := 0#32
  let c64_i32_77 : BitVec 32 := 64#32
  let v147 : BitVec 32 := Scalar.muli c0_i32 c64_i32_77
  let c56_i32 : BitVec 32 := 56#32
  let v148 : BitVec 32 := Scalar.addi v147 c56_i32
  let v5797 : BitVec 32 := Scalar.muli c64_i32_3289 v148
  let v5798 : BitVec 32 := Scalar.addi c64_i32_3290 v5797
  v5798
def k0_mult186 : BitVec 32 :=
  let c64_i32_3298 : BitVec 32 := 64#32
  let c64_i32_3297 : BitVec 32 := 64#32
  let c0_i32 : BitVec 32 := 0#32
  let c64_i32_78 : BitVec 32 := 64#32
  let v149 : BitVec 32 := Scalar.muli c0_i32 c64_i32_78
  let c57_i32 : BitVec 32 := 57#32
  let v150 : BitVec 32 := Scalar.addi v149 c57_i32
  let v5814 : BitVec 32 := Scalar.muli c64_i32_3297 v150
  let v5815 : BitVec 32 := Scalar.addi c64_i32_3298 v5814
  v5815
def k0_mult187 : BitVec 32 :=
  let c64_i32_3306 : BitVec 32 := 64#32
  let c64_i32_3305 : BitVec 32 := 64#32
  let c0_i32 : BitVec 32 := 0#32
  let c64_i32_79 : BitVec 32 := 64#32
  let v151 : BitVec 32 := Scalar.muli c0_i32 c64_i32_79
  let c58_i32 : BitVec 32 := 58#32
  let v152 : BitVec 32 := Scalar.addi v151 c58_i32
  let v5831 : BitVec 32 := Scalar.muli c64_i32_3305 v152
  let v5832 : BitVec 32 := Scalar.addi c64_i32_3306 v5831
  v5832
def k0_mult188 : BitVec 32 :=
  let c64_i32_3314 : BitVec 32 := 64#32
  let c64_i32_3313 : BitVec 32 := 64#32
  let c0_i32 : BitVec 32 := 0#32
  let c64_i32_80 : BitVec 32 := 64#32
  let v153 : BitVec 32 := Scalar.muli c0_i32 c64_i32_80
  let c59_i32 : BitVec 32 := 59#32
  let v154 : BitVec 32 := Scalar.addi v153 c59_i32
  let v5848 : BitVec 32 := Scalar.muli c64_i32_3313 v154
  let v5849 : BitVec 32 := Scalar.addi c64_i32_3314 v5848
  v5849
def k0_mult189 : BitVec 32 :=
  let c64_i32_3322 : BitVec 32 := 64#32
  let c64_i32_3321 : BitVec 32 := 64#32
  let c0_i32 : BitVec 32 := 0#32
  let c64_i32_81 : BitVec 32 := 64#32
  let v155 : BitVec 32 := Scalar.muli c0_i32 c64_i32_81
  let c60_i32 : BitVec 32 := 60#32
  let v156 : BitVec 32 := Scalar.addi v155 c60_i32
  let v5865 : BitVec 32 := Scalar.muli c64_i32_3321 v156
  let v5866 : BitVec 32 := Scalar.addi c64_i32_3322 v5865
  v5866
def k0_mult190 : BitVec 32 :=
  let c64_i32_3330 : BitVec 32 := 64#32
  let c64_i32_3329 : BitVec 32 := 64#32
  let c0_i32 : BitVec 32 := 0#32
  let c64_i32_82 : BitVec 32 := 64#32
  let v157 : BitVec 32 := Scalar.muli c0_i32 c64_i32_82
  let c61_i32 : BitVec 32 := 61#32
  let v158 : BitVec 32 := Scalar.addi v157 c61_i32
  let v5882 : BitVec 32 := Scalar.muli c64_i32_3329 v158
  let v5883 : BitVec 32 := Scalar.addi c64_i32_3330 v5882
  v5883
def k0_mult191 : BitVec 32 :=
  let c64_i32_3338 : BitVec 32 := 64#32
  let c64_i32_3337 : BitVec 32 := 64#32
  let c0_i32 : BitVec 32 := 0#32
  let c64_i32_83 : BitVec 32 := 64#32
  let v159 : BitVec 32 := Scalar.muli c0_i32 c64_i32_83
  let c62_i32 : BitVec 32 := 62#32
  let v160 : BitVec 32 := Scalar.addi v159 c62_i32
  let v5899 : BitVec 32 := Scalar.muli c64_i32_3337 v160
  let v5900 : BitVec 32 := Scalar.addi c64_i32_3338 v5899
  v5900
def k0_mult192 : BitVec 32 :=
  let c64_i32_3346 : BitVec 32 := 64#32
  let c64_i32_3345 : BitVec 32 := 64#32
  let c0_i32 : BitVec 32 := 0#32
  let c64_i32_84 : BitVec 32 := 64#32
  let v161 : BitVec 32 := Scalar.muli c0_i32 c64_i32_84
  let c63_i32 : BitVec 32 := 63#32
  let v162 : BitVec 32 := Scalar.addi v161 c63_i32
  let v5916 : BitVec 32 := Scalar.muli c64_i32_3345 v162
  let v5917 : BitVec 32 := Scalar.addi c64_i32_3346 v5916
  v5917
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![arg0.toNat, c0_i32.toNat, v0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4160x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4160x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4160x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x14x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x4160x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S2x4112x18432 : Shape := ⟨3, ![2, 4112, 18432]⟩
abbrev S16x15x31 : Shape := ⟨3, ![16, 15, 31]⟩
abbrev S16x16 : Shape := ⟨2, ![16, 16]⟩
abbrev S2x4112x2048 : Shape := ⟨3, ![2, 4112, 2048]⟩
abbrev S2x4112x16x128 : Shape := ⟨4, ![2, 4112, 16, 128]⟩
abbrev S2x16x4112x128 : Shape := ⟨4, ![2, 16, 4112, 128]⟩
abbrev S2x16x16x128 : Shape := ⟨4, ![2, 16, 16, 128]⟩
abbrev S2x16x4096x128 : Shape := ⟨4, ![2, 16, 4096, 128]⟩
abbrev S2x16x64x64x128 : Shape := ⟨5, ![2, 16, 64, 64, 128]⟩
abbrev S1x16x1x16 : Shape := ⟨4, ![1, 16, 1, 16]⟩
abbrev S2x16x16x16 : Shape := ⟨4, ![2, 16, 16, 16]⟩
abbrev S_ : Shape := ⟨0, ![]⟩
abbrev S2x16x16 : Shape := ⟨3, ![2, 16, 16]⟩
abbrev S2x16x16x1 : Shape := ⟨4, ![2, 16, 16, 1]⟩
abbrev S64 : Shape := ⟨1, ![64]⟩
abbrev S1x64 : Shape := ⟨2, ![1, 64]⟩
abbrev S64x1 : Shape := ⟨2, ![64, 1]⟩
abbrev S64x64 : Shape := ⟨2, ![64, 64]⟩
abbrev S64x64x1 : Shape := ⟨3, ![64, 64, 1]⟩
abbrev S16x15x64x64 : Shape := ⟨4, ![16, 15, 64, 64]⟩
abbrev S8 : Shape := ⟨1, ![8]⟩
abbrev S1x8 : Shape := ⟨2, ![1, 8]⟩
abbrev S64x8 : Shape := ⟨2, ![64, 8]⟩
abbrev S64x8x1 : Shape := ⟨3, ![64, 8, 1]⟩
abbrev S2x16x64x8x64x128 : Shape := ⟨6, ![2, 16, 64, 8, 64, 128]⟩
abbrev S2x16x64x64x8x64 : Shape := ⟨6, ![2, 16, 64, 64, 8, 64]⟩
abbrev S16x64x8x64x64 : Shape := ⟨5, ![16, 64, 8, 64, 64]⟩
abbrev S16x64x64x8x64 : Shape := ⟨5, ![16, 64, 64, 8, 64]⟩
abbrev S1x1x1x64x1x64 : Shape := ⟨6, ![1, 1, 1, 64, 1, 64]⟩
abbrev S1x16x64x64x8x64 : Shape := ⟨6, ![1, 16, 64, 64, 8, 64]⟩
abbrev S2x16x64x64x16 : Shape := ⟨5, ![2, 16, 64, 64, 16]⟩
abbrev S1x16x1x1x16 : Shape := ⟨5, ![1, 16, 1, 1, 16]⟩
abbrev S2x16x64x64x512 : Shape := ⟨5, ![2, 16, 64, 64, 512]⟩
abbrev S2x16x64x64x528 : Shape := ⟨5, ![2, 16, 64, 64, 528]⟩
abbrev S2x16x64x64 : Shape := ⟨4, ![2, 16, 64, 64]⟩
abbrev S2x16x64x64x1 : Shape := ⟨5, ![2, 16, 64, 64, 1]⟩
abbrev S2x4160x2048 : Shape := ⟨3, ![2, 4160, 2048]⟩

abbrev nBuf : Space → Nat
  | .hbm => 202
  | .vmem => 0
  | .smem => 0
  | _ => 0

abbrev hbmTy0_0 (i : Nat) : BufTy := match i % 128 with
  | 0 => ⟨S2x4112x18432, .f32⟩
  | 1 => ⟨S16x15x31, .f32⟩
  | 2 => ⟨S16x16, .f32⟩
  | 3 => ⟨S2x4112x2048, .f32⟩
  | 4 => ⟨S2x4112x2048, .f32⟩
  | 5 => ⟨S2x4112x2048, .f32⟩
  | 6 => ⟨S2x4112x16x128, .f32⟩
  | 7 => ⟨S2x16x4112x128, .f32⟩
  | 8 => ⟨S2x4112x16x128, .f32⟩
  | 9 => ⟨S2x16x4112x128, .f32⟩
  | 10 => ⟨S2x4112x16x128, .f32⟩
  | 11 => ⟨S2x16x4112x128, .f32⟩
  | 12 => ⟨S2x16x16x128, .f32⟩
  | 13 => ⟨S2x16x16x128, .f32⟩
  | 14 => ⟨S2x16x16x128, .f32⟩
  | 15 => ⟨S2x16x4096x128, .f32⟩
  | 16 => ⟨S2x16x64x64x128, .f32⟩
  | 17 => ⟨S2x16x4096x128, .f32⟩
  | 18 => ⟨S2x16x64x64x128, .f32⟩
  | 19 => ⟨S2x16x4096x128, .f32⟩
  | 20 => ⟨S2x16x64x64x128, .f32⟩
  | 21 => ⟨S1x16x1x16, .f32⟩
  | 22 => ⟨S2x16x16x16, .f32⟩
  | 23 => ⟨S_, .f32⟩
  | 24 => ⟨S2x16x16x16, .f32⟩
  | 25 => ⟨S2x16x16x16, .f32⟩
  | 26 => ⟨S2x16x16x16, .f32⟩
  | 27 => ⟨S2x16x16x16, .f32⟩
  | 28 => ⟨S_, .f32⟩
  | 29 => ⟨S2x16x16, .f32⟩
  | 30 => ⟨S_, .f32⟩
  | 31 => ⟨S2x16x16, .f32⟩
  | 32 => ⟨S2x16x16, .f32⟩
  | 33 => ⟨S2x16x16x1, .f32⟩
  | 34 => ⟨S2x16x16x16, .f32⟩
  | 35 => ⟨S2x16x16x16, .f32⟩
  | 36 => ⟨S2x16x16x16, .f32⟩
  | 37 => ⟨S_, .f32⟩
  | 38 => ⟨S2x16x16, .f32⟩
  | 39 => ⟨S2x16x16x1, .f32⟩
  | 40 => ⟨S2x16x16x16, .f32⟩
  | 41 => ⟨S2x16x16x16, .f32⟩
  | 42 => ⟨S2x16x16x128, .f32⟩
  | 43 => ⟨S64, .i32⟩
  | 44 => ⟨S_, .i32⟩
  | 45 => ⟨S64, .i32⟩
  | 46 => ⟨S64, .i32⟩
  | 47 => ⟨S_, .i32⟩
  | 48 => ⟨S_, .i32⟩
  | 49 => ⟨S_, .i32⟩
  | 50 => ⟨S64, .i32⟩
  | 51 => ⟨S64, .i32⟩
  | 52 => ⟨S_, .i32⟩
  | 53 => ⟨S64, .i32⟩
  | 54 => ⟨S64, .i32⟩
  | 55 => ⟨S1x64, .i32⟩
  | 56 => ⟨S64x1, .i32⟩
  | 57 => ⟨S64x64, .i32⟩
  | 58 => ⟨S64x64, .i32⟩
  | 59 => ⟨S64x64, .i1⟩
  | 60 => ⟨S1x64, .i32⟩
  | 61 => ⟨S64x1, .i32⟩
  | 62 => ⟨S_, .i32⟩
  | 63 => ⟨S64x1, .i32⟩
  | 64 => ⟨S64x1, .i32⟩
  | 65 => ⟨S64x64, .i32⟩
  | 66 => ⟨S64x64, .i32⟩
  | 67 => ⟨S64x64, .i1⟩
  | 68 => ⟨S64x64, .i1⟩
  | 69 => ⟨S1x64, .i32⟩
  | 70 => ⟨S64x1, .i32⟩
  | 71 => ⟨S64x64, .i32⟩
  | 72 => ⟨S64x64, .i32⟩
  | 73 => ⟨S64x64, .i32⟩
  | 74 => ⟨S_, .i32⟩
  | 75 => ⟨S64x64, .i32⟩
  | 76 => ⟨S64x64, .i32⟩
  | 77 => ⟨S_, .i32⟩
  | 78 => ⟨S64x64, .i32⟩
  | 79 => ⟨S64x64, .i32⟩
  | 80 => ⟨S_, .i32⟩
  | 81 => ⟨S_, .i32⟩
  | 82 => ⟨S_, .i32⟩
  | 83 => ⟨S64x64, .i32⟩
  | 84 => ⟨S64x64, .i32⟩
  | 85 => ⟨S_, .i32⟩
  | 86 => ⟨S64x64, .i32⟩
  | 87 => ⟨S64x64, .i32⟩
  | 88 => ⟨S_, .i32⟩
  | 89 => ⟨S64x64, .i32⟩
  | 90 => ⟨S64x64, .i1⟩
  | 91 => ⟨S_, .i32⟩
  | 92 => ⟨S64x64, .i32⟩
  | 93 => ⟨S64x64, .i32⟩
  | 94 => ⟨S64x64, .i32⟩
  | 95 => ⟨S64x64x1, .i32⟩
  | 96 => ⟨S16x15x64x64, .f32⟩
  | 97 => ⟨S64, .i32⟩
  | 98 => ⟨S_, .i32⟩
  | 99 => ⟨S64, .i32⟩
  | 100 => ⟨S64, .i32⟩
  | 101 => ⟨S_, .i32⟩
  | 102 => ⟨S_, .i32⟩
  | 103 => ⟨S_, .i32⟩
  | 104 => ⟨S64, .i32⟩
  | 105 => ⟨S64, .i32⟩
  | 106 => ⟨S_, .i32⟩
  | 107 => ⟨S64, .i32⟩
  | 108 => ⟨S64, .i32⟩
  | 109 => ⟨S64x1, .i32⟩
  | 110 => ⟨S8, .i32⟩
  | 111 => ⟨S1x8, .i32⟩
  | 112 => ⟨S64x8, .i32⟩
  | 113 => ⟨S64x8, .i32⟩
  | 114 => ⟨S64x8, .i32⟩
  | 115 => ⟨S_, .i32⟩
  | 116 => ⟨S64x8, .i32⟩
  | 117 => ⟨S64x8, .i1⟩
  | 118 => ⟨S_, .i32⟩
  | 119 => ⟨S64x8, .i32⟩
  | 120 => ⟨S64x8, .i32⟩
  | 121 => ⟨S64x8, .i32⟩
  | 122 => ⟨S64x8x1, .i32⟩
  | 123 => ⟨S2x16x64x8x64x128, .f32⟩
  | 124 => ⟨S_, .i32⟩
  | 125 => ⟨S64x8, .i32⟩
  | 126 => ⟨S64x8, .i1⟩
  | 127 => ⟨S_, .i32⟩
  | _ => ⟨S2x4112x18432, .f32⟩

abbrev hbmTy0_1 (i : Nat) : BufTy := match i % 128 with
  | 0 => ⟨S64x8, .i32⟩
  | 1 => ⟨S64x8, .i32⟩
  | 2 => ⟨S64x8, .i32⟩
  | 3 => ⟨S64x8x1, .i32⟩
  | 4 => ⟨S2x16x64x8x64x128, .f32⟩
  | 5 => ⟨S2x16x64x64x8x64, .f32⟩
  | 6 => ⟨S_, .f32⟩
  | 7 => ⟨S2x16x64x64x8x64, .f32⟩
  | 8 => ⟨S2x16x64x64x8x64, .f32⟩
  | 9 => ⟨S64x1, .i32⟩
  | 10 => ⟨S64x8, .i32⟩
  | 11 => ⟨S64x8, .i32⟩
  | 12 => ⟨S_, .i32⟩
  | 13 => ⟨S64x8, .i32⟩
  | 14 => ⟨S64x8, .i32⟩
  | 15 => ⟨S_, .i32⟩
  | 16 => ⟨S64x8, .i32⟩
  | 17 => ⟨S64x8, .i32⟩
  | 18 => ⟨S_, .i32⟩
  | 19 => ⟨S64x8, .i32⟩
  | 20 => ⟨S64x8, .i1⟩
  | 21 => ⟨S_, .i32⟩
  | 22 => ⟨S64x8, .i32⟩
  | 23 => ⟨S64x8, .i32⟩
  | 24 => ⟨S64x8, .i32⟩
  | 25 => ⟨S64x8x1, .i32⟩
  | 26 => ⟨S16x64x8x64x64, .f32⟩
  | 27 => ⟨S16x64x64x8x64, .f32⟩
  | 28 => ⟨S1x1x1x64x1x64, .i1⟩
  | 29 => ⟨S1x16x64x64x8x64, .f32⟩
  | 30 => ⟨S2x16x64x64x8x64, .f32⟩
  | 31 => ⟨S2x16x64x64x8x64, .f32⟩
  | 32 => ⟨S_, .f32⟩
  | 33 => ⟨S_, .f32⟩
  | 34 => ⟨S2x16x64x64x8x64, .i1⟩
  | 35 => ⟨S2x16x64x64x8x64, .f32⟩
  | 36 => ⟨S2x16x64x64x8x64, .f32⟩
  | 37 => ⟨S2x16x64x64x16, .f32⟩
  | 38 => ⟨S_, .f32⟩
  | 39 => ⟨S2x16x64x64x16, .f32⟩
  | 40 => ⟨S2x16x64x64x16, .f32⟩
  | 41 => ⟨S1x16x1x1x16, .f32⟩
  | 42 => ⟨S2x16x64x64x16, .f32⟩
  | 43 => ⟨S2x16x64x64x16, .f32⟩
  | 44 => ⟨S2x16x64x64x512, .f32⟩
  | 45 => ⟨S2x16x64x64x528, .f32⟩
  | 46 => ⟨S_, .f32⟩
  | 47 => ⟨S2x16x64x64, .f32⟩
  | 48 => ⟨S_, .f32⟩
  | 49 => ⟨S2x16x64x64, .f32⟩
  | 50 => ⟨S2x16x64x64, .f32⟩
  | 51 => ⟨S2x16x64x64x1, .f32⟩
  | 52 => ⟨S2x16x64x64x528, .f32⟩
  | 53 => ⟨S2x16x64x64x528, .f32⟩
  | 54 => ⟨S2x16x64x64x528, .f32⟩
  | 55 => ⟨S_, .f32⟩
  | 56 => ⟨S2x16x64x64, .f32⟩
  | 57 => ⟨S2x16x64x64x1, .f32⟩
  | 58 => ⟨S2x16x64x64x528, .f32⟩
  | 59 => ⟨S2x16x64x64x528, .f32⟩
  | 60 => ⟨S2x16x64x64x512, .f32⟩
  | 61 => ⟨S2x16x64x64x8x64, .f32⟩
  | 62 => ⟨S2x16x64x64x16, .f32⟩
  | 63 => ⟨S2x16x64x64x128, .f32⟩
  | 64 => ⟨S2x16x64x64x128, .f32⟩
  | 65 => ⟨S2x16x64x64x128, .f32⟩
  | 66 => ⟨S2x16x4096x128, .f32⟩
  | 67 => ⟨S2x16x4112x128, .f32⟩
  | 68 => ⟨S2x4112x16x128, .f32⟩
  | 69 => ⟨S2x4112x2048, .f32⟩
  | 70 => ⟨S_, .i32⟩
  | 71 => ⟨S_, .f32⟩
  | 72 => ⟨S2x4160x2048, .f32⟩
  | 73 => ⟨S2x4160x2048, .bf16⟩
  | _ => ⟨S2x4112x18432, .f32⟩

abbrev hbmTy (i : Nat) : BufTy := match i / 128 with
  | 0 => hbmTy0_0 i
  | 1 => hbmTy0_1 i
  | _ => ⟨S2x4112x18432, .f32⟩

abbrev bufTy : (tb : Table) → Fin (tcTables nBuf tb) → BufTy
  | .hbm, ⟨i, _⟩ => hbmTy i
  | _, _ => ⟨S2x4112x18432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_cst : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst_0 : Ref sig .tc := ⟨.hbm, 28, rfl⟩
abbrev main_v24 : Ref sig .tc := ⟨.hbm, 29, rfl⟩
abbrev main_cst_1 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst_2 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_c : Ref sig .tc := ⟨.hbm, 44, rfl⟩
abbrev main_v37 : Ref sig .tc := ⟨.hbm, 45, rfl⟩
abbrev main_v38 : Ref sig .tc := ⟨.hbm, 46, rfl⟩
abbrev main_c_3 : Ref sig .tc := ⟨.hbm, 47, rfl⟩
abbrev main_c_4 : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_c_5 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_c_6 : Ref sig .tc := ⟨.hbm, 74, rfl⟩
abbrev main_v58 : Ref sig .tc := ⟨.hbm, 75, rfl⟩
abbrev main_v59 : Ref sig .tc := ⟨.hbm, 76, rfl⟩
abbrev main_c_7 : Ref sig .tc := ⟨.hbm, 77, rfl⟩
abbrev main_v60 : Ref sig .tc := ⟨.hbm, 78, rfl⟩
abbrev main_v61 : Ref sig .tc := ⟨.hbm, 79, rfl⟩
abbrev main_c_8 : Ref sig .tc := ⟨.hbm, 80, rfl⟩
abbrev main_c_9 : Ref sig .tc := ⟨.hbm, 81, rfl⟩
abbrev main_call1_v0 : Ref sig .tc := ⟨.hbm, 82, rfl⟩
abbrev main_call1_v1 : Ref sig .tc := ⟨.hbm, 83, rfl⟩
abbrev main_call1_v2 : Ref sig .tc := ⟨.hbm, 84, rfl⟩
abbrev main_call1_v3 : Ref sig .tc := ⟨.hbm, 85, rfl⟩
abbrev main_call1_v4 : Ref sig .tc := ⟨.hbm, 86, rfl⟩
abbrev main_v62 : Ref sig .tc := ⟨.hbm, 87, rfl⟩
abbrev main_c_10 : Ref sig .tc := ⟨.hbm, 88, rfl⟩
abbrev main_v63 : Ref sig .tc := ⟨.hbm, 89, rfl⟩
abbrev main_v64 : Ref sig .tc := ⟨.hbm, 90, rfl⟩
abbrev main_c_11 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_c_12 : Ref sig .tc := ⟨.hbm, 98, rfl⟩
abbrev main_v71 : Ref sig .tc := ⟨.hbm, 99, rfl⟩
abbrev main_v72 : Ref sig .tc := ⟨.hbm, 100, rfl⟩
abbrev main_c_13 : Ref sig .tc := ⟨.hbm, 101, rfl⟩
abbrev main_c_14 : Ref sig .tc := ⟨.hbm, 102, rfl⟩
abbrev main_call2_v0 : Ref sig .tc := ⟨.hbm, 103, rfl⟩
abbrev main_call2_v1 : Ref sig .tc := ⟨.hbm, 104, rfl⟩
abbrev main_call2_v2 : Ref sig .tc := ⟨.hbm, 105, rfl⟩
abbrev main_call2_v3 : Ref sig .tc := ⟨.hbm, 106, rfl⟩
abbrev main_call2_v4 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_c_15 : Ref sig .tc := ⟨.hbm, 115, rfl⟩
abbrev main_v80 : Ref sig .tc := ⟨.hbm, 116, rfl⟩
abbrev main_v81 : Ref sig .tc := ⟨.hbm, 117, rfl⟩
abbrev main_c_16 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_c_17 : Ref sig .tc := ⟨.hbm, 124, rfl⟩
abbrev main_v87 : Ref sig .tc := ⟨.hbm, 125, rfl⟩
abbrev main_v88 : Ref sig .tc := ⟨.hbm, 126, rfl⟩
abbrev main_c_18 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_cst_19 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_c_20 : Ref sig .tc := ⟨.hbm, 140, rfl⟩
abbrev main_v100 : Ref sig .tc := ⟨.hbm, 141, rfl⟩
abbrev main_v101 : Ref sig .tc := ⟨.hbm, 142, rfl⟩
abbrev main_c_21 : Ref sig .tc := ⟨.hbm, 143, rfl⟩
abbrev main_v102 : Ref sig .tc := ⟨.hbm, 144, rfl⟩
abbrev main_v103 : Ref sig .tc := ⟨.hbm, 145, rfl⟩
abbrev main_c_22 : Ref sig .tc := ⟨.hbm, 146, rfl⟩
abbrev main_v104 : Ref sig .tc := ⟨.hbm, 147, rfl⟩
abbrev main_v105 : Ref sig .tc := ⟨.hbm, 148, rfl⟩
abbrev main_c_23 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_cst_24 : Ref sig .tc := ⟨.hbm, 160, rfl⟩
abbrev main_call3_v0 : Ref sig .tc := ⟨.hbm, 161, rfl⟩
abbrev main_call3_v1 : Ref sig .tc := ⟨.hbm, 162, rfl⟩
abbrev main_call3_v2 : Ref sig .tc := ⟨.hbm, 163, rfl⟩
abbrev main_v116 : Ref sig .tc := ⟨.hbm, 164, rfl⟩
abbrev main_v117 : Ref sig .tc := ⟨.hbm, 165, rfl⟩
abbrev main_cst_25 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_cst_26 : Ref sig .tc := ⟨.hbm, 174, rfl⟩
abbrev main_v125 : Ref sig .tc := ⟨.hbm, 175, rfl⟩
abbrev main_cst_27 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_cst_28 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_c_29 : Ref sig .tc := ⟨.hbm, 198, rfl⟩
abbrev main_call4_v0 : Ref sig .tc := ⟨.hbm, 199, rfl⟩
abbrev main_v146 : Ref sig .tc := ⟨.hbm, 200, rfl⟩
abbrev main_v147 : Ref sig .tc := ⟨.hbm, 201, rfl⟩

abbrev nD : Nat := 1
abbrev τ : Topo := Topo.v7x

variable {F : FTy → Type} [FloatOps F]
-- ==== Kernel2.lean ====
abbrev S8320x4096 : Shape := ⟨2, ![8320, 4096]⟩
abbrev S2x4096x18432 : Shape := ⟨3, ![2, 4096, 18432]⟩
abbrev S8320x18432 : Shape := ⟨2, ![8320, 18432]⟩
abbrev S1040x4096 : Shape := ⟨2, ![1040, 4096]⟩
abbrev S1x4096x512 : Shape := ⟨3, ![1, 4096, 512]⟩
abbrev S1040x512 : Shape := ⟨2, ![1040, 512]⟩
abbrev S4096x512 : Shape := ⟨2, ![4096, 512]⟩

abbrev nBuf : Space → Nat
  | .hbm => 3
  | .vmem => 6
  | .smem => 0
  | _ => 0

abbrev bufTy : (tb : Table) → Fin (tcTables nBuf tb) → BufTy
  | .hbm, ⟨0, _⟩ => ⟨S8320x4096, .bf16⟩
  | .hbm, ⟨1, _⟩ => ⟨S2x4096x18432, .f32⟩
  | .hbm, ⟨2, _⟩ => ⟨S8320x18432, .f32⟩
  | .local _ .vmem, ⟨0, _⟩ => ⟨S1040x4096, .bf16⟩
  | .local _ .vmem, ⟨1, _⟩ => ⟨S1040x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1040x512, .f32⟩
  | .local _ .vmem, ⟨5, _⟩ => ⟨S1040x512, .f32⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 36], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1040x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1040x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S8320x4096 : Shape := ⟨2, ![8320, 4096]⟩
abbrev S2x4096x18432 : Shape := ⟨3, ![2, 4096, 18432]⟩
abbrev S1x4096x18432 : Shape := ⟨3, ![1, 4096, 18432]⟩
abbrev S4096x18432 : Shape := ⟨2, ![4096, 18432]⟩
abbrev S8320x18432 : Shape := ⟨2, ![8320, 18432]⟩

abbrev nBuf : Space → Nat
  | .hbm => 6
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S2x4096x18432, .f32⟩
  | .hbm, ⟨2, _⟩ => ⟨S8320x4096, .f32⟩
  | .hbm, ⟨3, _⟩ => ⟨S1x4096x18432, .f32⟩
  | .hbm, ⟨4, _⟩ => ⟨S4096x18432, .f32⟩
  | .hbm, ⟨5, _⟩ => ⟨S8320x18432, .f32⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel3.lean ====
abbrev S8320x4096 : Shape := ⟨2, ![8320, 4096]⟩
abbrev S2x4096x16384 : Shape := ⟨3, ![2, 4096, 16384]⟩
abbrev S8320x16384 : Shape := ⟨2, ![8320, 16384]⟩
abbrev S1040x4096 : Shape := ⟨2, ![1040, 4096]⟩
abbrev S1x4096x512 : Shape := ⟨3, ![1, 4096, 512]⟩
abbrev S1040x512 : Shape := ⟨2, ![1040, 512]⟩
abbrev S4096x512 : Shape := ⟨2, ![4096, 512]⟩

abbrev nBuf : Space → Nat
  | .hbm => 3
  | .vmem => 6
  | .smem => 0
  | _ => 0

abbrev bufTy : (tb : Table) → Fin (tcTables nBuf tb) → BufTy
  | .hbm, ⟨0, _⟩ => ⟨S8320x4096, .bf16⟩
  | .hbm, ⟨1, _⟩ => ⟨S2x4096x16384, .f32⟩
  | .hbm, ⟨2, _⟩ => ⟨S8320x16384, .bf16⟩
  | .local _ .vmem, ⟨0, _⟩ => ⟨S1040x4096, .bf16⟩
  | .local _ .vmem, ⟨1, _⟩ => ⟨S1040x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1040x512, .bf16⟩
  | .local _ .vmem, ⟨5, _⟩ => ⟨S1040x512, .bf16⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1040x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1040x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S8320x4096 : Shape := ⟨2, ![8320, 4096]⟩
abbrev S2x4096x16384 : Shape := ⟨3, ![2, 4096, 16384]⟩
abbrev S1x4096x16384 : Shape := ⟨3, ![1, 4096, 16384]⟩
abbrev S4096x16384 : Shape := ⟨2, ![4096, 16384]⟩
abbrev S8320x16384 : Shape := ⟨2, ![8320, 16384]⟩

abbrev nBuf : Space → Nat
  | .hbm => 7
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S2x4096x16384, .f32⟩
  | .hbm, ⟨2, _⟩ => ⟨S8320x4096, .f32⟩
  | .hbm, ⟨3, _⟩ => ⟨S1x4096x16384, .f32⟩
  | .hbm, ⟨4, _⟩ => ⟨S4096x16384, .f32⟩
  | .hbm, ⟨5, _⟩ => ⟨S8320x16384, .f32⟩
  | .hbm, ⟨6, _⟩ => ⟨S8320x16384, .bf16⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel4.lean ====
abbrev S8320x4096 : Shape := ⟨2, ![8320, 4096]⟩
abbrev S2x4096x4096 : Shape := ⟨3, ![2, 4096, 4096]⟩
abbrev S1040x4096 : Shape := ⟨2, ![1040, 4096]⟩
abbrev S1x4096x512 : Shape := ⟨3, ![1, 4096, 512]⟩
abbrev S1040x512 : Shape := ⟨2, ![1040, 512]⟩
abbrev S4096x512 : Shape := ⟨2, ![4096, 512]⟩

abbrev nBuf : Space → Nat
  | .hbm => 3
  | .vmem => 6
  | .smem => 0
  | _ => 0

abbrev bufTy : (tb : Table) → Fin (tcTables nBuf tb) → BufTy
  | .hbm, ⟨0, _⟩ => ⟨S8320x4096, .bf16⟩
  | .hbm, ⟨1, _⟩ => ⟨S2x4096x4096, .f32⟩
  | .hbm, ⟨2, _⟩ => ⟨S8320x4096, .bf16⟩
  | .local _ .vmem, ⟨0, _⟩ => ⟨S1040x4096, .bf16⟩
  | .local _ .vmem, ⟨1, _⟩ => ⟨S1040x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1040x512, .bf16⟩
  | .local _ .vmem, ⟨5, _⟩ => ⟨S1040x512, .bf16⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1040x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1040x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S8320x4096 : Shape := ⟨2, ![8320, 4096]⟩
abbrev S2x4096x4096 : Shape := ⟨3, ![2, 4096, 4096]⟩
abbrev S1x4096x4096 : Shape := ⟨3, ![1, 4096, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S2x4096x4096, .f32⟩
  | .hbm, ⟨2, _⟩ => ⟨S8320x4096, .f32⟩
  | .hbm, ⟨3, _⟩ => ⟨S1x4096x4096, .f32⟩
  | .hbm, ⟨4, _⟩ => ⟨S4096x4096, .f32⟩
  | .hbm, ⟨5, _⟩ => ⟨S8320x4096, .f32⟩
  | .hbm, ⟨6, _⟩ => ⟨S8320x4096, .bf16⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel5.lean ====
abbrev S2x4160x4096 : Shape := ⟨3, ![2, 4160, 4096]⟩
abbrev S4x4096 : Shape := ⟨2, ![4, 4096]⟩
abbrev S1x4096 : Shape := ⟨2, ![1, 4096]⟩
abbrev S4096 : Shape := ⟨1, ![4096]⟩
abbrev S2x4096x4096 : Shape := ⟨3, ![2, 4096, 4096]⟩
abbrev S1x64x4096 : Shape := ⟨3, ![1, 64, 4096]⟩
abbrev S1x256x4096 : Shape := ⟨3, ![1, 256, 4096]⟩
abbrev S64x4096 : Shape := ⟨2, ![64, 4096]⟩
abbrev S64 : Shape := ⟨1, ![64]⟩
abbrev S64x1 : Shape := ⟨2, ![64, 1]⟩

abbrev nBuf : Space → Nat
  | .hbm => 7
  | .vmem => 19
  | .smem => 0
  | _ => 0

abbrev bufTy : (tb : Table) → Fin (tcTables nBuf tb) → BufTy
  | .hbm, ⟨0, _⟩ => ⟨S2x4160x4096, .f32⟩
  | .hbm, ⟨1, _⟩ => ⟨S2x4160x4096, .bf16⟩
  | .hbm, ⟨2, _⟩ => ⟨S4x4096, .f32⟩
  | .hbm, ⟨3, _⟩ => ⟨S1x4096, .f32⟩
  | .hbm, ⟨4, _⟩ => ⟨S4096, .f32⟩
  | .hbm, ⟨5, _⟩ => ⟨S1x4096, .f32⟩
  | .hbm, ⟨6, _⟩ => ⟨S2x4096x4096, .f32⟩
  | .local _ .vmem, ⟨0, _⟩ => ⟨S1x64x4096, .f32⟩
  | .local _ .vmem, ⟨1, _⟩ => ⟨S1x64x4096, .f32⟩
  | .local _ .vmem, ⟨2, _⟩ => ⟨S1x64x4096, .f32⟩
  | .local _ .vmem, ⟨3, _⟩ => ⟨S1x64x4096, .f32⟩
  | .local _ .vmem, ⟨4, _⟩ => ⟨S1x64x4096, .f32⟩
  | .local _ .vmem, ⟨5, _⟩ => ⟨S1x64x4096, .f32⟩
  | .local _ .vmem, ⟨6, _⟩ => ⟨S1x64x4096, .f32⟩
  | .local _ .vmem, ⟨7, _⟩ => ⟨S1x64x4096, .f32⟩
  | .local _ .vmem, ⟨8, _⟩ => ⟨S1x64x4096, .bf16⟩
  | .local _ .vmem, ⟨9, _⟩ => ⟨S1x64x4096, .bf16⟩
  | .local _ .vmem, ⟨10, _⟩ => ⟨S1x64x4096, .bf16⟩
  | .local _ .vmem, ⟨11, _⟩ => ⟨S1x64x4096, .bf16⟩
  | .local _ .vmem, ⟨12, _⟩ => ⟨S1x64x4096, .bf16⟩
  | .local _ .vmem, ⟨13, _⟩ => ⟨S1x64x4096, .bf16⟩
  | .local _ .vmem, ⟨14, _⟩ => ⟨S1x64x4096, .bf16⟩
  | .local _ .vmem, ⟨15, _⟩ => ⟨S1x64x4096, .bf16⟩
  | .local _ .vmem, ⟨16, _⟩ => ⟨S1x4096, .f32⟩
  | .local _ .vmem, ⟨17, _⟩ => ⟨S1x256x4096, .f32⟩
  | .local _ .vmem, ⟨18, _⟩ => ⟨S1x256x4096, .f32⟩
  | _, _ => ⟨S2x4160x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c0_i32 : BitVec 32 := 0#32
  let v1 : BitVec 32 := Scalar.addi v0 c0_i32
  let c1_i32 : BitVec 32 := 1#32
  let v2 : BitVec 32 := Scalar.addi v1 c1_i32
  let c0_i32_0 : BitVec 32 := 0#32
  let c0_i32_1 : BitVec 32 := 0#32
  ![arg0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c1_i32 : BitVec 32 := 1#32
  let v1 : BitVec 32 := Scalar.addi v0 c1_i32
  let c1_i32_0 : BitVec 32 := 1#32
  let v2 : BitVec 32 := Scalar.addi v1 c1_i32_0
  let c0_i32 : BitVec 32 := 0#32
  let c0_i32_1 : BitVec 32 := 0#32
  ![arg0.toNat, v2.toNat, c0_i32.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c2_i32 : BitVec 32 := 2#32
  let v1 : BitVec 32 := Scalar.addi v0 c2_i32
  let c1_i32 : BitVec 32 := 1#32
  let v2 : BitVec 32 := Scalar.addi v1 c1_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c3_i32 : BitVec 32 := 3#32
  let v1 : BitVec 32 := Scalar.addi v0 c3_i32
  let c1_i32 : BitVec 32 := 1#32
  let v2 : BitVec 32 := Scalar.addi v1 c1_i32
  let c0_i32 : BitVec 32 := 0#32
  let c0_i32_0 : BitVec 32 := 0#32
  ![arg0.toNat, v2.toNat, c0_i32.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c0_i32 : BitVec 32 := 0#32
  let v1 : BitVec 32 := Scalar.addi v0 c0_i32
  let c1_i32 : BitVec 32 := 1#32
  let v2 : BitVec 32 := Scalar.addi v1 c1_i32
  let c0_i32_0 : BitVec 32 := 0#32
  let c0_i32_1 : BitVec 32 := 0#32
  ![arg0.toNat, v2.toNat, c0_i32_0.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c1_i32 : BitVec 32 := 1#32
  let v1 : BitVec 32 := Scalar.addi v0 c1_i32
  let c1_i32_0 : BitVec 32 := 1#32
  let v2 : BitVec 32 := Scalar.addi v1 c1_i32_0
  let c0_i32 : BitVec 32 := 0#32
  let c0_i32_1 : BitVec 32 := 0#32
  ![arg0.toNat, v2.toNat, c0_i32.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c2_i32 : BitVec 32 := 2#32
  let v1 : BitVec 32 := Scalar.addi v0 c2_i32
  let c1_i32 : BitVec 32 := 1#32
  let v2 : BitVec 32 := Scalar.addi v1 c1_i32
  let c0_i32 : BitVec 32 := 0#32
  let c0_i32_0 : BitVec 32 := 0#32
  ![arg0.toNat, v2.toNat, c0_i32.toNat]

def cc0_transform_7 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c3_i32 : BitVec 32 := 3#32
  let v1 : BitVec 32 := Scalar.addi v0 c3_i32
  let c1_i32 : BitVec 32 := 1#32
  let v2 : BitVec 32 := Scalar.addi v1 c1_i32
  let c0_i32 : BitVec 32 := 0#32
  let c0_i32_0 : BitVec 32 := 0#32
  ![arg0.toNat, v2.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference5Ideal.lean ====
abbrev S2x4160x4096 : Shape := ⟨3, ![2, 4160, 4096]⟩
abbrev S4x4096 : Shape := ⟨2, ![4, 4096]⟩
abbrev S1x4096 : Shape := ⟨2, ![1, 4096]⟩
abbrev S4096 : Shape := ⟨1, ![4096]⟩
abbrev S_ : Shape := ⟨0, ![]⟩
abbrev S2x4160 : Shape := ⟨2, ![2, 4160]⟩
abbrev S2x4160x1 : Shape := ⟨3, ![2, 4160, 1]⟩
abbrev S1x1x4096 : Shape := ⟨3, ![1, 1, 4096]⟩
abbrev S2x4096x4096 : Shape := ⟨3, ![2, 4096, 4096]⟩

abbrev nBuf : Space → Nat
  | .hbm => 24
  | .vmem => 0
  | .smem => 0
  | _ => 0

abbrev bufTy : (tb : Table) → Fin (tcTables nBuf tb) → BufTy
  | .hbm, ⟨0, _⟩ => ⟨S2x4160x4096, .f32⟩
  | .hbm, ⟨1, _⟩ => ⟨S2x4160x4096, .bf16⟩
  | .hbm, ⟨2, _⟩ => ⟨S4x4096, .f32⟩
  | .hbm, ⟨3, _⟩ => ⟨S2x4160x4096, .f32⟩
  | .hbm, ⟨4, _⟩ => ⟨S1x4096, .f32⟩
  | .hbm, ⟨5, _⟩ => ⟨S4096, .f32⟩
  | .hbm, ⟨6, _⟩ => ⟨S2x4160x4096, .f32⟩
  | .hbm, ⟨7, _⟩ => ⟨S_, .f32⟩
  | .hbm, ⟨8, _⟩ => ⟨S2x4160, .f32⟩
  | .hbm, ⟨9, _⟩ => ⟨S2x4160x1, .f32⟩
  | .hbm, ⟨10, _⟩ => ⟨S_, .f32⟩
  | .hbm, ⟨11, _⟩ => ⟨S2x4160x1, .f32⟩
  | .hbm, ⟨12, _⟩ => ⟨S2x4160x1, .f32⟩
  | .hbm, ⟨13, _⟩ => ⟨S_, .f32⟩
  | .hbm, ⟨14, _⟩ => ⟨S2x4160x1, .f32⟩
  | .hbm, ⟨15, _⟩ => ⟨S2x4160x1, .f32⟩
  | .hbm, ⟨16, _⟩ => ⟨S2x4160x1, .f32⟩
  | .hbm, ⟨17, _⟩ => ⟨S2x4160x4096, .f32⟩
  | .hbm, ⟨18, _⟩ => ⟨S2x4160x4096, .f32⟩
  | .hbm, ⟨19, _⟩ => ⟨S1x1x4096, .f32⟩
  | .hbm, ⟨20, _⟩ => ⟨S2x4160x4096, .f32⟩
  | .hbm, ⟨21, _⟩ => ⟨S2x4160x4096, .f32⟩
  | .hbm, ⟨22, _⟩ => ⟨S2x4160x4096, .f32⟩
  | .hbm, ⟨23, _⟩ => ⟨S2x4096x4096, .f32⟩
  | _, _ => ⟨S2x4160x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Proof.Frames.lean ====
module

public import proofs.«01_k».proof.Defs
public import Idealize.ShloMosaic.Lib.Quiescent
public import proofs.«01_k».proof.Proof.Gen.Kernel
public import proofs.«01_k».proof.Proof.Gen.KernelIdeal.Frame
public import proofs.«01_k».proof.Proof.Gen.ReferenceIdeal.Run
public import proofs.«01_k».proof.Proof.Gen.Kernel2
public import proofs.«01_k».proof.Proof.Gen.Kernel2Ideal.Frame
public import proofs.«01_k».proof.Proof.Gen.Reference2Ideal.Run
public import proofs.«01_k».proof.Proof.Gen.Kernel3
public import proofs.«01_k».proof.Proof.Gen.Kernel3Ideal.Frame
public import proofs.«01_k».proof.Proof.Gen.Reference3Ideal.Run
public import proofs.«01_k».proof.Proof.Gen.Kernel4
public import proofs.«01_k».proof.Proof.Gen.Kernel4Ideal.Frame
public import proofs.«01_k».proof.Proof.Gen.Reference4Ideal.Run
public import proofs.«01_k».proof.Proof.Gen.Kernel5
public import proofs.«01_k».proof.Proof.Gen.Kernel5Ideal.Frame
public import proofs.«01_k».proof.Proof.Gen.Reference5Ideal.Run

/-! Every program runs, keeps its arguments and ends with every counter at zero. A kernel and its idealization have the
same text, so one run serves both: the body tables are equal once the label is known. -/

@[expose] public section
set_option maxRecDepth 16384
open Idealize.ShloMosaic Idealize.ShloMosaic.TcCoe Idealize.SL.Sem
namespace Cert.Proof.Frames

set_option maxHeartbeats 0 in
/-- The two body tables are one. -/
theorem attention_bodies : Cert.Kernel.defs (F := Bits) = Cert.KernelIdeal.defs (F := Bits) :=
  congrArg (Pipeline.defs Cert.Kernel.pcfgs) (show Cert.Kernel.defs₀ (F := Bits) = Cert.KernelIdeal.defs₀ (F := Bits) by
    unfold Cert.Kernel.defs₀ Cert.KernelIdeal.defs₀
    congr 1
    funext x y
    rcases x with ⟨_ | n, h⟩
    · rfl
    · exact absurd h (Nat.not_lt.2 (Nat.le_add_left _ _)))

set_option maxHeartbeats 0 in
theorem attention_kernel : Cert.quiescent_Kernel := fun m ρ _ => by
  rw [attention_bodies]
  exact Cert.KernelIdeal.Gen.frame (F := Bits) m ρ

theorem attention_ideal : Cert.quiescent_KernelIdeal := fun m ρ _ => Cert.KernelIdeal.Gen.frame m ρ

theorem attention_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

set_option maxHeartbeats 0 in
/-- The two body tables are one. -/
theorem evenIn_bodies : Cert.Kernel2.defs (F := Bits) = Cert.Kernel2Ideal.defs (F := Bits) :=
  congrArg (Pipeline.defs Cert.Kernel2.pcfgs) (show Cert.Kernel2.defs₀ (F := Bits) = Cert.Kernel2Ideal.defs₀ (F := Bits) by
    unfold Cert.Kernel2.defs₀ Cert.Kernel2Ideal.defs₀
    congr 1
    funext x y
    rcases x with ⟨_ | n, h⟩
    · rfl
    · exact absurd h (Nat.not_lt.2 (Nat.le_add_left _ _)))

theorem evenIn_kernel : Cert.quiescent_Kernel2 := fun m ρ _ => by
  rw [evenIn_bodies]
  exact Cert.Kernel2Ideal.Gen.frame (F := Bits) m ρ

theorem evenIn_ideal : Cert.quiescent_Kernel2Ideal := fun m ρ _ => Cert.Kernel2Ideal.Gen.frame m ρ

theorem evenIn_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run m ρ)

set_option maxHeartbeats 0 in
/-- The two body tables are one. -/
theorem oddIn_bodies : Cert.Kernel3.defs (F := Bits) = Cert.Kernel3Ideal.defs (F := Bits) :=
  congrArg (Pipeline.defs Cert.Kernel3.pcfgs) (show Cert.Kernel3.defs₀ (F := Bits) = Cert.Kernel3Ideal.defs₀ (F := Bits) by
    unfold Cert.Kernel3.defs₀ Cert.Kernel3Ideal.defs₀
    congr 1
    funext x y
    rcases x with ⟨_ | n, h⟩
    · rfl
    · exact absurd h (Nat.not_lt.2 (Nat.le_add_left _ _)))

theorem oddIn_kernel : Cert.quiescent_Kernel3 := fun m ρ _ => by
  rw [oddIn_bodies]
  exact Cert.Kernel3Ideal.Gen.frame (F := Bits) m ρ

theorem oddIn_ideal : Cert.quiescent_Kernel3Ideal := fun m ρ _ => Cert.Kernel3Ideal.Gen.frame m ρ

theorem oddIn_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run m ρ)

set_option maxHeartbeats 0 in
/-- The two body tables are one. -/
theorem outProj_bodies : Cert.Kernel4.defs (F := Bits) = Cert.Kernel4Ideal.defs (F := Bits) :=
  congrArg (Pipeline.defs Cert.Kernel4.pcfgs) (show Cert.Kernel4.defs₀ (F := Bits) = Cert.Kernel4Ideal.defs₀ (F := Bits) by
    unfold Cert.Kernel4.defs₀ Cert.Kernel4Ideal.defs₀
    congr 1
    funext x y
    rcases x with ⟨_ | n, h⟩
    · rfl
    · exact absurd h (Nat.not_lt.2 (Nat.le_add_left _ _)))

theorem outProj_kernel : Cert.quiescent_Kernel4 := fun m ρ _ => by
  rw [outProj_bodies]
  exact Cert.Kernel4Ideal.Gen.frame (F := Bits) m ρ

theorem outProj_ideal : Cert.quiescent_Kernel4Ideal := fun m ρ _ => Cert.Kernel4Ideal.Gen.frame m ρ

theorem outProj_reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run m ρ)

set_option maxHeartbeats 0 in
/-- The two body tables are one. -/
theorem final_bodies : Cert.Kernel5.defs (F := Bits) = Cert.Kernel5Ideal.defs (F := Bits) :=
  congrArg (Pipeline.defs Cert.Kernel5.pcfgs) (show Cert.Kernel5.defs₀ (F := Bits) = Cert.Kernel5Ideal.defs₀ (F := Bits) by
    unfold Cert.Kernel5.defs₀ Cert.Kernel5Ideal.defs₀
    congr 1
    funext x y
    rcases x with ⟨_ | n, h⟩
    · rfl
    · exact absurd h (Nat.not_lt.2 (Nat.le_add_left _ _)))

theorem final_kernel : Cert.quiescent_Kernel5 := fun m ρ _ => by
  rw [final_bodies]
  exact Cert.Kernel5Ideal.Gen.frame (F := Bits) m ρ

theorem final_ideal : Cert.quiescent_Kernel5Ideal := fun m ρ _ => Cert.Kernel5Ideal.Gen.frame m ρ

theorem final_reference : Cert.quiescent_Reference5Ideal := fun m ρ _ =>
  (θ_run Cert.Reference5Ideal.defs _ _).mono (fun r h => ⟨fun c => (h c).2, sem_eq_zero_of_no_sems (by decide) r.2⟩)
    (Cert.Reference5Ideal.Value.run m ρ)

end Cert.Proof.Frames
-- ==== Proof.EvenIn.lean ====
module

public import proofs.«01_k».proof.Defs
public import proofs.«01_k».proof.Proof.Gen.Kernel2Ideal.Value
public import proofs.«01_k».proof.Proof.Gen.Reference2Ideal.Run
public import proofs.«01_k».proof.Proof.Gen.Reference2Ideal.Read
public import Idealize.ShloMosaic.Lib.Pointwise
public import Idealize.ShloMosaic.Lib.Pipeline.ValueKit
public import Idealize.ShloMosaic.Lib.Claim

/-! The first block's input projection: the array that the blocks of 1040 rows by 512 columns leave is the matrix product. -/

@[expose] public section
set_option maxRecDepth 16384
noncomputable section
open Idealize.ShloMosaic Idealize.ShloMosaic.TcCoe Idealize.SL.Sem Idealize.ShloMosaic.Pointwise

namespace Cert.Kernel2Ideal.Product
open Cert.Kernel2Ideal Cert.Kernel2Ideal.Gen
variable (m : (ℓ : Loc nD τ sig) → Buf (Elt Ideal) ℓ)

/-- Rows of `x` times the columns of layer 0 of `w`. -/
def product (x : Vec Ideal S8320x4096 .bf16) (w : Vec Ideal S2x4096x18432 .f32) : Vec Ideal S8320x18432 .f32 :=
  fun i => ∑ k : Fin 4096, x (ix2 (i 0) k) * w (ix3 (0 : Fin 2) k (i 1))

/-- The blocks of each window at a grid point. -/
theorem places : ∀ t : Fin cfg0.N, win0_0.index t = ![(grid0.coords t 0).val, 0] ∧ win0_1.index t = ![0, 0, (grid0.coords t 1).val]
    ∧ win0_2.index t = ![(grid0.coords t 0).val, (grid0.coords t 1).val] :=
  (by decide +kernel : ∀ t : Fin grid0.N, _)

/-- A block of the product from a block of rows and a block of columns. -/
theorem block (x : Vec Ideal S1040x4096 .bf16) (w : Vec Ideal S1x4096x512 .f32) (y : S1040x512.Idx) :
    k0_pay1 x w y = ∑ k : Fin 4096, x (ix2 (y 0) k) * w (ix3 (0 : Fin 1) k (y 1)) := by
  unfold k0_pay1
  pointwise [dot_S1040x4096_S4096x512_S1040x512_1_0_0_1_n_n]

/-- The array after the run is the product. -/
theorem array (c : Dev nD) : (dats m 0 c).arrAt 2 cfg0.N = product (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (block _ _ _).trans (Finset.sum_congr (M := EReal) rfl fun k _ => ?_)
  congr 1 <;> blk_ext [iblk, V, places t]

end Cert.Kernel2Ideal.Product

namespace Cert.Proof.Product2
/-- The projection kernel computes the reference's product. -/
theorem algebraic : Cert.algebraic_Kernel2Ideal_Reference2Ideal := by
  pair_intro
  · run_from Cert.Kernel2Ideal.Value.run_blocks m g
  · run_from Cert.Reference2Ideal.Value.run m' g'
    rw [Cert.Kernel2Ideal.Product.array m c]
    funext j
    unfold Cert.Kernel2Ideal.Product.product
    pointwise [Cert.Reference2Ideal.dot_S8320x4096_S4096x18432_S8320x18432_1_0_0_1_n_n]
end Cert.Proof.Product2
end
-- ==== Proof.OddIn.lean ====
module

public import proofs.«01_k».proof.Defs
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pointwise
public import Idealize.ShloMosaic.Lib.Pipeline.ValueKit
public import Idealize.ShloMosaic.Lib.Claim

/-! The recurrent block's input projection: the array that the blocks of 1040 rows by 512 columns leave is the matrix product. -/

@[expose] public section
set_option maxRecDepth 16384
noncomputable section
open Idealize.ShloMosaic Idealize.ShloMosaic.TcCoe Idealize.SL.Sem Idealize.ShloMosaic.Pointwise

namespace Cert.Kernel3Ideal.Product
open Cert.Kernel3Ideal Cert.Kernel3Ideal.Gen
variable (m : (ℓ : Loc nD τ sig) → Buf (Elt Ideal) ℓ)

/-- Rows of `x` times the columns of layer 0 of `w`. -/
def product (x : Vec Ideal S8320x4096 .bf16) (w : Vec Ideal S2x4096x16384 .f32) : Vec Ideal S8320x16384 .bf16 :=
  fun i => ∑ k : Fin 4096, x (ix2 (i 0) k) * w (ix3 (0 : Fin 2) k (i 1))

/-- The blocks of each window at a grid point. -/
theorem places : ∀ t : Fin cfg0.N, win0_0.index t = ![(grid0.coords t 0).val, 0] ∧ win0_1.index t = ![0, 0, (grid0.coords t 1).val]
    ∧ win0_2.index t = ![(grid0.coords t 0).val, (grid0.coords t 1).val] :=
  (by decide +kernel : ∀ t : Fin grid0.N, _)

/-- A block of the product from a block of rows and a block of columns. -/
theorem block (x : Vec Ideal S1040x4096 .bf16) (w : Vec Ideal S1x4096x512 .f32) (y : S1040x512.Idx) :
    k0_pay1 x w y = ∑ k : Fin 4096, x (ix2 (y 0) k) * w (ix3 (0 : Fin 1) k (y 1)) := by
  unfold k0_pay1
  pointwise [dot_S1040x4096_S4096x512_S1040x512_1_0_0_1_n_n]

/-- The array after the run is the product. -/
theorem array (c : Dev nD) : (dats m 0 c).arrAt 2 cfg0.N = product (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (block _ _ _).trans (Finset.sum_congr (M := EReal) rfl fun k _ => ?_)
  congr 1 <;> blk_ext [iblk, V, places t]

end Cert.Kernel3Ideal.Product

namespace Cert.Proof.Product3
/-- The projection kernel computes the reference's product. -/
theorem algebraic : Cert.algebraic_Kernel3Ideal_Reference3Ideal := by
  pair_intro
  · run_from Cert.Kernel3Ideal.Value.run_blocks m g
  · run_from Cert.Reference3Ideal.Value.run m' g'
    rw [Cert.Kernel3Ideal.Product.array m c]
    funext j
    unfold Cert.Kernel3Ideal.Product.product
    pointwise [Cert.Reference3Ideal.dot_S8320x4096_S4096x16384_S8320x16384_1_0_0_1_n_n]
end Cert.Proof.Product3
end
-- ==== Proof.OutProj.lean ====
module

public import proofs.«01_k».proof.Defs
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pointwise
public import Idealize.ShloMosaic.Lib.Pipeline.ValueKit
public import Idealize.ShloMosaic.Lib.Claim

/-! The recurrent block's output projection: the array that the blocks of 1040 rows by 512 columns leave is the matrix product. -/

@[expose] public section
set_option maxRecDepth 16384
noncomputable section
open Idealize.ShloMosaic Idealize.ShloMosaic.TcCoe Idealize.SL.Sem Idealize.ShloMosaic.Pointwise

namespace Cert.Kernel4Ideal.Product
open Cert.Kernel4Ideal Cert.Kernel4Ideal.Gen
variable (m : (ℓ : Loc nD τ sig) → Buf (Elt Ideal) ℓ)

/-- Rows of `x` times the columns of layer 1 of `w`. -/
def product (x : Vec Ideal S8320x4096 .bf16) (w : Vec Ideal S2x4096x4096 .f32) : Vec Ideal S8320x4096 .bf16 :=
  fun i => ∑ k : Fin 4096, x (ix2 (i 0) k) * w (ix3 (1 : Fin 2) k (i 1))

/-- The blocks of each window at a grid point. -/
theorem places : ∀ t : Fin cfg0.N, win0_0.index t = ![(grid0.coords t 0).val, 0] ∧ win0_1.index t = ![1, 0, (grid0.coords t 1).val]
    ∧ win0_2.index t = ![(grid0.coords t 0).val, (grid0.coords t 1).val] :=
  (by decide +kernel : ∀ t : Fin grid0.N, _)

/-- A block of the product from a block of rows and a block of columns. -/
theorem block (x : Vec Ideal S1040x4096 .bf16) (w : Vec Ideal S1x4096x512 .f32) (y : S1040x512.Idx) :
    k0_pay1 x w y = ∑ k : Fin 4096, x (ix2 (y 0) k) * w (ix3 (0 : Fin 1) k (y 1)) := by
  unfold k0_pay1
  pointwise [dot_S1040x4096_S4096x512_S1040x512_1_0_0_1_n_n]

/-- The array after the run is the product. -/
theorem array (c : Dev nD) : (dats m 0 c).arrAt 2 cfg0.N = product (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (block _ _ _).trans (Finset.sum_congr (M := EReal) rfl fun k _ => ?_)
  congr 1 <;> blk_ext [iblk, V, places t]

end Cert.Kernel4Ideal.Product

namespace Cert.Proof.Product4
/-- The projection kernel computes the reference's product. -/
theorem algebraic : Cert.algebraic_Kernel4Ideal_Reference4Ideal := by
  pair_intro
  · run_from Cert.Kernel4Ideal.Value.run_blocks m g
  · run_from Cert.Reference4Ideal.Value.run m' g'
    rw [Cert.Kernel4Ideal.Product.array m c]
    funext j
    unfold Cert.Kernel4Ideal.Product.product
    pointwise [Cert.Reference4Ideal.dot_S8320x4096_S4096x4096_S8320x4096_1_0_0_1_n_n]
end Cert.Proof.Product4
end
-- ==== Proof.FinalRows.lean ====
module

public import proofs.«01_k».proof.Defs
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pointwise
public import Idealize.ShloMosaic.Lib.Pipeline.ValueKit
public import Idealize.ShloMosaic.Lib.Claim

/-! The last residual: the hidden state plus the normalised output of the last block, the meta rows dropped. -/

@[expose] public section
set_option maxRecDepth 16384
noncomputable section
open Idealize.ShloMosaic Idealize.ShloMosaic.TcCoe Idealize.SL.Sem Idealize.ShloMosaic.Pointwise

namespace Cert.Kernel5Ideal.Norm
open Cert.Kernel5Ideal Cert.Kernel5Ideal.Gen
variable (m : (ℓ : Loc nD τ sig) → Buf (Elt Ideal) ℓ)

/-- One row's residual at lane `j`: `h + o / rms(o) * g`. -/
def residual (h o g : Fin 4096 → EReal) (j : Fin 4096) : EReal :=
  h j + o j * Ideal.rsqrt (Ideal.div (∑ k, o k * o k) (Scalar.ofBits (F := Ideal) .f32 0x45800000#32) + Scalar.ofBits (F := Ideal) .f32 0x358637BD#32) * g j

/-- A block of 64 rows from a block of outputs, a block of hidden states and the norm's weights. -/
theorem rows (o : Vec Ideal S1x64x4096 .bf16) (h : Vec Ideal S1x64x4096 .f32) (g : Vec Ideal S1x4096 .f32) (y : S1x64x4096.Idx) :
    k0_pay1 o h g y = residual (fun k => h (ix3 (0 : Fin 1) (y 1) k)) (fun k => o (ix3 (0 : Fin 1) (y 1) k)) (fun k => g (ix2 (0 : Fin 1) k)) (y 2) := by
  have e : y = ix3 (0 : Fin 1) (y 1) (y 2) := by
    funext a
    match a with
    | 0 => exact Subsingleton.elim (α := Fin 1) _ _
    | 1 => rfl
    | 2 => rfl
  unfold k0_pay1 residual
  pointwise
  congr 1
  · exact congrArg h e
  · rw [show o y = o (ix3 (0 : Fin 1) (y 1) (y 2)) from congrArg o e]

/-- The blocks of each window at a grid point: four blocks of 64 rows, after the first, make one block of 256. -/
theorem places : ∀ t : Fin cfg0.N, win0_0.index t = ![(grid0.coords t 0).val, 4 * (grid0.coords t 1).val + 1, 0]
    ∧ win0_1.index t = ![(grid0.coords t 0).val, 4 * (grid0.coords t 1).val + 2, 0]
    ∧ win0_2.index t = ![(grid0.coords t 0).val, 4 * (grid0.coords t 1).val + 3, 0]
    ∧ win0_3.index t = ![(grid0.coords t 0).val, 4 * (grid0.coords t 1).val + 4, 0]
    ∧ win0_4.index t = ![(grid0.coords t 0).val, 4 * (grid0.coords t 1).val + 1, 0]
    ∧ win0_5.index t = ![(grid0.coords t 0).val, 4 * (grid0.coords t 1).val + 2, 0]
    ∧ win0_6.index t = ![(grid0.coords t 0).val, 4 * (grid0.coords t 1).val + 3, 0]
    ∧ win0_7.index t = ![(grid0.coords t 0).val, 4 * (grid0.coords t 1).val + 4, 0]
    ∧ win0_8.index t = ![0, 0] ∧ win0_9.index t = ![(grid0.coords t 0).val, (grid0.coords t 1).val, 0] :=
  (by decide +kernel : ∀ t : Fin grid0.N, _)

/-- The whole result. -/
def result (h : Vec Ideal S2x4160x4096 .f32) (o : Vec Ideal S2x4160x4096 .bf16) (g : Vec Ideal S4x4096 .f32) : Vec Ideal S2x4096x4096 .f32 :=
  fun i => residual (fun k => h (ix3 (i 0) (⟨64 + (i 1).val, by have := (i 1).isLt; simp [S2x4096x4096] at this ⊢; omega⟩ : Fin 4160) k))
    (fun k => o (ix3 (i 0) (⟨64 + (i 1).val, by have := (i 1).isLt; simp [S2x4096x4096] at this ⊢; omega⟩ : Fin 4160) k)) (fun k => g (ix2 (3 : Fin 4) k)) (i 2)

theorem weights (c : Dev nD) (t : Fin cfg0.N) (k : Fin 4096) :
    iblk m c 8 t (ix2 (0 : Fin 1) k) = m ((c : Thread nD τ).loc main_arg2) (ix2 (3 : Fin 4) k) := by
  have h := places t
  blk_simp [iblk]
  entry_read
  pointwise
  congr 1
  blk_ext [places t]

end Cert.Kernel5Ideal.Norm
end
-- ==== Proof.Final.lean ====
module

public import proofs.«01_k».proof.Defs
public import proofs.«01_k».proof.Proof.FinalRows
public import proofs.«01_k».proof.Proof.Gen.Reference5Ideal.Run
public import proofs.«01_k».proof.Proof.Gen.Reference5Ideal.Read
public import Idealize.ShloMosaic.Lib.Pointwise
public import Idealize.ShloMosaic.Lib.Pipeline.ValueKit
public import Idealize.ShloMosaic.Lib.Claim

/-! The last residual's whole array and its claim. -/

@[expose] public section
set_option maxRecDepth 16384
noncomputable section
open Idealize.ShloMosaic Idealize.ShloMosaic.TcCoe Idealize.SL.Sem Idealize.ShloMosaic.Pointwise

namespace Cert.Kernel5Ideal.Norm
open Cert.Kernel5Ideal Cert.Kernel5Ideal.Gen
variable (m : (ℓ : Loc nD τ sig) → Buf (Elt Ideal) ℓ)

/-- Where an element of a result block lies in the result. -/
theorem spot (t : Fin cfg0.N) (y : S1x256x4096.Idx) : (win0_9.blk t).view.emb y = ix3 (⟨(grid0.coords t 0).val, (grid0.coords t 0).isLt⟩ : Fin 2)
    (⟨256 * (grid0.coords t 1).val + (y 1).val, by have h : (grid0.coords t 1).val < 16 := (grid0.coords t 1).isLt; have h' : (y 1).val < 256 := (y 1).isLt; omega⟩ : Fin 4096) (y 2 : Fin 4096) := by
  blk_ext [places t]

theorem states0 (c : Dev nD) (t : Fin cfg0.N) (a : Fin 64) (k : Fin 4096) (b : Fin 2) (r : Fin 4160)
    (hb : (grid0.coords t 0).val = b.val) (hr : (4 * (grid0.coords t 1).val + 1) * 64 + a.val = r.val) :
    iblk m c 0 t (ix3 (0 : Fin 1) a k) = m ((c : Thread nD τ).loc main_arg0) (ix3 b r k) := by
  unfold iblk
  rw [show V m c (Pipeline.arrRef spec0 0) = _ from V_main_arg0 m c]
  blk_ext [places t]

theorem states1 (c : Dev nD) (t : Fin cfg0.N) (a : Fin 64) (k : Fin 4096) (b : Fin 2) (r : Fin 4160)
    (hb : (grid0.coords t 0).val = b.val) (hr : (4 * (grid0.coords t 1).val + 2) * 64 + a.val = r.val) :
    iblk m c 1 t (ix3 (0 : Fin 1) a k) = m ((c : Thread nD τ).loc main_arg0) (ix3 b r k) := by
  unfold iblk
  rw [show V m c (Pipeline.arrRef spec0 1) = _ from V_main_arg0 m c]
  blk_ext [places t]

theorem states2 (c : Dev nD) (t : Fin cfg0.N) (a : Fin 64) (k : Fin 4096) (b : Fin 2) (r : Fin 4160)
    (hb : (grid0.coords t 0).val = b.val) (hr : (4 * (grid0.coords t 1).val + 3) * 64 + a.val = r.val) :
    iblk m c 2 t (ix3 (0 : Fin 1) a k) = m ((c : Thread nD τ).loc main_arg0) (ix3 b r k) := by
  unfold iblk
  rw [show V m c (Pipeline.arrRef spec0 2) = _ from V_main_arg0 m c]
  blk_ext [places t]

theorem states3 (c : Dev nD) (t : Fin cfg0.N) (a : Fin 64) (k : Fin 4096) (b : Fin 2) (r : Fin 4160)
    (hb : (grid0.coords t 0).val = b.val) (hr : (4 * (grid0.coords t 1).val + 4) * 64 + a.val = r.val) :
    iblk m c 3 t (ix3 (0 : Fin 1) a k) = m ((c : Thread nD τ).loc main_arg0) (ix3 b r k) := by
  unfold iblk
  rw [show V m c (Pipeline.arrRef spec0 3) = _ from V_main_arg0 m c]
  blk_ext [places t]

theorem outs0 (c : Dev nD) (t : Fin cfg0.N) (a : Fin 64) (k : Fin 4096) (b : Fin 2) (r : Fin 4160)
    (hb : (grid0.coords t 0).val = b.val) (hr : (4 * (grid0.coords t 1).val + 1) * 64 + a.val = r.val) :
    iblk m c 4 t (ix3 (0 : Fin 1) a k) = m ((c : Thread nD τ).loc main_arg1) (ix3 b r k) := by
  unfold iblk
  rw [show V m c (Pipeline.arrRef spec0 4) = _ from V_main_arg1 m c]
  blk_ext [places t]

theorem outs1 (c : Dev nD) (t : Fin cfg0.N) (a : Fin 64) (k : Fin 4096) (b : Fin 2) (r : Fin 4160)
    (hb : (grid0.coords t 0).val = b.val) (hr : (4 * (grid0.coords t 1).val + 2) * 64 + a.val = r.val) :
    iblk m c 5 t (ix3 (0 : Fin 1) a k) = m ((c : Thread nD τ).loc main_arg1) (ix3 b r k) := by
  unfold iblk
  rw [show V m c (Pipeline.arrRef spec0 5) = _ from V_main_arg1 m c]
  blk_ext [places t]

theorem outs2 (c : Dev nD) (t : Fin cfg0.N) (a : Fin 64) (k : Fin 4096) (b : Fin 2) (r : Fin 4160)
    (hb : (grid0.coords t 0).val = b.val) (hr : (4 * (grid0.coords t 1).val + 3) * 64 + a.val = r.val) :
    iblk m c 6 t (ix3 (0 : Fin 1) a k) = m ((c : Thread nD τ).loc main_arg1) (ix3 b r k) := by
  unfold iblk
  rw [show V m c (Pipeline.arrRef spec0 6) = _ from V_main_arg1 m c]
  blk_ext [places t]

theorem outs3 (c : Dev nD) (t : Fin cfg0.N) (a : Fin 64) (k : Fin 4096) (b : Fin 2) (r : Fin 4160)
    (hb : (grid0.coords t 0).val = b.val) (hr : (4 * (grid0.coords t 1).val + 4) * 64 + a.val = r.val) :
    iblk m c 7 t (ix3 (0 : Fin 1) a k) = m ((c : Thread nD τ).loc main_arg1) (ix3 b r k) := by
  unfold iblk
  rw [show V m c (Pipeline.arrRef spec0 7) = _ from V_main_arg1 m c]
  blk_ext [places t]

theorem array (c : Dev nD) : (dats m 0 c).arrAt 9 cfg0.N = result (m ((c : Thread nD τ).loc main_arg0)) (m ((c : Thread nD τ).loc main_arg1)) (m ((c : Thread nD τ).loc main_arg2)) := by
  refine (dats m 0 c).arrAt_eq_of_covers 9 _ (by decide +kernel) fun t hf y => ?_
  blk_simp
  refine Eq.trans ?_ (congrArg (result _ _ _) (spot t y).symm)
  rw [after0_9]
  frame_out
  canon_tiles y h
  all_goals
    refine (rows _ _ _ _).trans ?_
    unfold result
    refine congr (congr (congr (congrArg residual (funext fun k => ?_)) (funext fun k => ?_)) (funext fun k => weights m c t k)) (Fin.ext h2.symm)
  · exact states3 m c t _ k _ _ rfl (by simp only [ix3] at *; omega)
  · exact outs3 m c t _ k _ _ rfl (by simp only [ix3] at *; omega)
  · exact states2 m c t _ k _ _ rfl (by simp only [ix3] at *; omega)
  · exact outs2 m c t _ k _ _ rfl (by simp only [ix3] at *; omega)
  · exact states1 m c t _ k _ _ rfl (by simp only [ix3] at *; omega)
  · exact outs1 m c t _ k _ _ rfl (by simp only [ix3] at *; omega)
  · exact states0 m c t _ k _ _ rfl (by simp only [ix3] at *; omega)
  · exact outs0 m c t _ k _ _ rfl (by simp only [ix3] at *; omega)

/-- Kernel and reference compute the same residual. -/
theorem algebraic : Cert.algebraic_Kernel5Ideal_Reference5Ideal := by
  pair_intro
  run_from Cert.Kernel5Ideal.Value.run_blocks m g
  run_from Cert.Reference5Ideal.Value.run m' g'
  rw [array]
  funext j
  unfold result residual
  pointwise
end Cert.Kernel5Ideal.Norm
end
-- ==== Proof.Softmax.lean ====
module

public import Idealize.ShloMosaic.Lib.Pointwise
public import Idealize.ShloMosaic.Lib.Pipeline.ValueKit

/-! Weighted means by exponentials over the extended reals: the window's and the meta keys' weights summed apart and
divided once are the weights of the joined row, each divided, then summed. -/

@[expose] public section
noncomputable section
open Idealize.ShloMosaic

namespace Cert.Proof.Softmax

/-- The word that stands for −∞. -/
abbrev low : EReal := Ideal.ofBits .f32 0xFF800000#32
/-- The word for one over the square root of the head's width. -/
abbrev scale : EReal := Ideal.ofBits .f32 0x3DB504F3#32

/-- It is −∞. -/
theorem low_eq : low = ⊥ := by simp [low, Ideal.ofBits, Ideal.ieee]

/-- An extended real that is a real number. -/
def IsReal (x : EReal) : Prop := ∃ r : ℝ, x = (r : EReal)

theorem real_scale : IsReal scale := by
  unfold scale Ideal.ofBits Ideal.ieee
  dsimp only
  rw [if_neg (by decide), if_neg (by decide)]
  exact ⟨_, rfl⟩

theorem IsReal.add {x y : EReal} : IsReal x → IsReal y → IsReal (x + y)
  | ⟨a, ha⟩, ⟨b, hb⟩ => ⟨a + b, by rw [ha, hb, EReal.coe_add]⟩

theorem IsReal.mul {x y : EReal} : IsReal x → IsReal y → IsReal (x * y)
  | ⟨a, ha⟩, ⟨b, hb⟩ => ⟨a * b, by rw [ha, hb, EReal.coe_mul]⟩

theorem IsReal.sum {n : ℕ} {f : Fin n → EReal} (h : ∀ i, IsReal (f i)) : IsReal (∑ i, f i) := by
  choose g hg using h
  exact ⟨∑ i, g i, by rw [Finset.sum_congr rfl fun i _ => hg i]; exact (map_sum (⟨⟨Real.toEReal, rfl⟩, EReal.coe_add⟩ : ℝ →+ EReal) g _).symm⟩

theorem IsReal.ne_top {x : EReal} : IsReal x → x ≠ ⊤
  | ⟨_, h⟩ => h ▸ EReal.coe_ne_top _

/-- The largest of a family, −∞ counted in. -/
def top {n : ℕ} (f : Fin n → EReal) : EReal := Finset.univ.fold max low f

/-- The weighted mean over one family of scores. -/
def mean {n : ℕ} (s v : Fin n → EReal) : EReal :=
  Ideal.div (∑ k, Ideal.exp (s k - top s) * v k) (∑ k, Ideal.exp (s k - top s))

/-- The weighted mean over two families of scores, the largest taken over both. -/
def mean₂ {n k : ℕ} (sw vw : Fin n → EReal) (sm vm : Fin k → EReal) : EReal :=
  Ideal.div (∑ j, Ideal.exp (sw j - max (top sw) (top sm)) * vw j + ∑ j, Ideal.exp (sm j - max (top sw) (top sm)) * vm j)
    (∑ j, Ideal.exp (sw j - max (top sw) (top sm)) + ∑ j, Ideal.exp (sm j - max (top sw) (top sm)))

theorem top_le {n : ℕ} (f : Fin n → EReal) (c : EReal) : top f ≤ c ↔ ∀ i, f i ≤ c := by
  unfold top; rw [Finset.fold_max_le, low_eq]; simp

theorem le_top {n : ℕ} (f : Fin n → EReal) (i : Fin n) : f i ≤ top f := (top_le f _).mp le_rfl i

/-- The larger of −∞ and a maximum is the maximum. -/
theorem max_low (x : EReal) : max low x = x := by rw [low_eq]; simp

/-- A maximum below +∞: every entry is. -/
theorem top_ne_top {n : ℕ} {f : Fin n → EReal} (h : ∀ i, f i ≠ ⊤) : top f ≠ ⊤ := by
  intro e
  have key : ∀ s : Finset (Fin n), s.fold max low f ≠ ⊤ := by
    intro s
    induction s using Finset.induction_on with
    | empty => rw [Finset.fold_empty, low_eq]; exact bot_ne_top
    | insert a s ha ih =>
      rw [Finset.fold_insert ha]
      rcases max_choice (f a) (s.fold max low f) with e | e <;> rw [e]
      · exact h a
      · exact ih
  exact key _ e

theorem exp_nonneg (x : EReal) : 0 ≤ Ideal.exp x := by
  induction x with
  | bot => exact le_rfl
  | top => exact _root_.le_top
  | coe r => exact EReal.coe_nonneg.mpr (Real.exp_nonneg r)

theorem exp_pos {x : EReal} (h : IsReal x) : 0 < Ideal.exp x := by
  obtain ⟨r, rfl⟩ := h
  exact EReal.coe_pos.mpr (Real.exp_pos r)

/-- The sum of the exponentials is above zero where the largest is not +∞ and some score is a real number. -/
theorem sum_exp_pos {n : ℕ} (s : Fin n → EReal) (M : EReal) (hM : M ≠ ⊤) (k : Fin n) (hk : IsReal (s k)) (hkM : s k ≤ M) : 0 < ∑ j, Ideal.exp (s j - M) := by
  obtain ⟨r, hr⟩ := hk
  have hM' : IsReal M := by
    induction M with
    | bot => rw [hr] at hkM; exact absurd (le_bot_iff.mp hkM) (EReal.coe_ne_bot r)
    | top => exact absurd rfl hM
    | coe m => exact ⟨m, rfl⟩
  obtain ⟨m, hm⟩ := hM'
  refine lt_of_lt_of_le (exp_pos (x := s k - M) ⟨r - m, by rw [hr, hm, EReal.coe_sub]⟩) ?_
  exact Finset.single_le_sum (f := fun j => Ideal.exp (s j - M)) (fun j _ => exp_nonneg _) (Finset.mem_univ k)

/-- A factor that is not negative and not +∞ leaves a sum. -/
theorem sum_mul {n : ℕ} (f : Fin n → EReal) (c : EReal) (h0 : 0 ≤ c) (ht : c ≠ ⊤) : ∑ i, f i * c = (∑ i, f i) * c := by
  have key : ∀ s : Finset (Fin n), ∑ i ∈ s, f i * c = (∑ i ∈ s, f i) * c := by
    intro s
    induction s using Finset.induction_on with
    | empty => simp
    | insert a s ha ih => rw [Finset.sum_insert ha, Finset.sum_insert ha, ih, EReal.right_distrib_of_nonneg_of_ne_top h0 ht]
  exact key _

/-- The inverse of what is above zero is not +∞. -/
theorem inv_ne_top {D : EReal} (hD : 0 < D) : D⁻¹ ≠ ⊤ := fun h => by
  rcases eq_or_ne D ⊤ with rfl | hT
  · simp at h
  · lift D to ℝ using ⟨hT, fun h => by simp [h] at hD⟩
    rw [← EReal.coe_inv] at h; exact EReal.coe_ne_top _ h

/-- Dividing each weight and then summing is summing and then dividing, where the divisor is above zero. -/
theorem sum_div {n : ℕ} (e v : Fin n → EReal) (D : EReal) (hD : 0 < D) : ∑ k, Ideal.div (e k) D * v k = (∑ k, e k * v k) * D⁻¹ := by
  rw [← sum_mul _ _ (EReal.inv_nonneg_of_nonneg hD.le) (inv_ne_top hD)]
  refine Finset.sum_congr rfl fun k _ => ?_
  unfold Ideal.div
  rw [if_neg hD.ne']
  rw [mul_assoc, mul_assoc, mul_comm D⁻¹]

/-- The mean of one family, each weight divided first. -/
theorem mean_eq {n : ℕ} (s v : Fin n → EReal) (h : ∀ k, s k ≠ ⊤) (k : Fin n) (hk : IsReal (s k)) :
    ∑ j, Ideal.div (Ideal.exp (s j - top s)) (∑ i, Ideal.exp (s i - top s)) * v j = mean s v := by
  have hD := sum_exp_pos s (top s) (top_ne_top h) k hk (le_top s k)
  rw [sum_div _ _ _ hD]; unfold mean Ideal.div
  rw [if_neg hD.ne']

/-- A joined row's maximum is the larger of its parts'. -/
theorem top_join {n k N : ℕ} (hN : N = k + n) (s : Fin N → EReal) (sw : Fin n → EReal) (sm : Fin k → EReal)
    (hm : ∀ j : Fin k, s ⟨j.1, by omega⟩ = sm j) (hw : ∀ j : Fin n, s ⟨k + j.1, by omega⟩ = sw j) : top s = max (top sw) (top sm) := by
  subst hN
  refine le_antisymm ((top_le s _).mpr fun i => ?_) (max_le ((top_le sw _).mpr fun j => (hw j) ▸ le_top s _) ((top_le sm _).mpr fun j => (hm j) ▸ le_top s _))
  by_cases h : i.1 < k
  · exact le_max_of_le_right ((hm ⟨i.1, h⟩) ▸ le_top sm _)
  · refine le_max_of_le_left (le_trans (le_of_eq ?_) (le_top sw ⟨i.1 - k, by omega⟩))
    rw [← hw]; congr 1; exact Fin.ext (by simp; omega)

/-- A joined row's sum is its parts'. -/
theorem sum_join {n k N : ℕ} (hN : N = k + n) (f : Fin N → EReal) : ∑ i, f i = ∑ j : Fin n, f ⟨k + j.1, by omega⟩ + ∑ j : Fin k, f ⟨j.1, by omega⟩ := by
  subst hN
  rw [Fin.sum_univ_add, add_comm]; rfl

/-- The joined row's weights, each divided and then summed with the values (the window's by rows of `b`), are the two families' mean. -/
theorem mean₂_eq {a b k n N : ℕ} (hn : n = a * b) (hN : N = k + n) (s : Fin N → EReal) (sw vw : Fin n → EReal) (sm vm : Fin k → EReal)
    (hm : ∀ j : Fin k, s ⟨j.1, by omega⟩ = sm j) (hw : ∀ j : Fin n, s ⟨k + j.1, by omega⟩ = sw j)
    (hT : ∀ j, sw j ≠ ⊤) (hT' : ∀ j, sm j ≠ ⊤) (j₀ : Fin k) (h₀ : IsReal (sm j₀)) (w : Fin a → Fin b → EReal)
    (hb : ∀ (i : Fin a) (y : Fin b), i.1 * b + y.1 < n) (hv : ∀ i y, w i y = vw ⟨i.1 * b + y.1, hb i y⟩)
    (e : Fin N → EReal) (he : ∀ i, e i = Ideal.div (Ideal.exp (s i - top s)) (∑ i, Ideal.exp (s i - top s))) :
    ∑ j : Fin k, e ⟨j.1, by omega⟩ * vm j + ∑ i : Fin a, ∑ y : Fin b, e ⟨k + (i.1 * b + y.1), by have := hb i y; omega⟩ * w i y = mean₂ sw vw sm vm := by
  have hM := top_join hN s sw sm hm hw
  have hS : ∑ i, Ideal.exp (s i - top s) = ∑ j, Ideal.exp (sw j - max (top sw) (top sm)) + ∑ j, Ideal.exp (sm j - max (top sw) (top sm)) := by
    rw [sum_join hN, hM]
    exact congrArg₂ (· + ·) (Finset.sum_congr rfl fun j _ => by rw [hw]) (Finset.sum_congr rfl fun j _ => by rw [hm])
  have hD : 0 < ∑ j, Ideal.exp (sw j - max (top sw) (top sm)) + ∑ j, Ideal.exp (sm j - max (top sw) (top sm)) := by
    refine lt_of_lt_of_le (sum_exp_pos sm (max (top sw) (top sm)) ?_ j₀ h₀ (le_max_of_le_right (le_top sm j₀))) (le_add_of_nonneg_left (Finset.sum_nonneg fun j _ => exp_nonneg _))
    rcases max_choice (top sw) (top sm) with e | e <;> rw [e]
    · exact top_ne_top hT
    · exact top_ne_top hT'
  have h1 : ∑ j : Fin k, e ⟨j.1, by omega⟩ * vm j = (∑ j, Ideal.exp (sm j - max (top sw) (top sm)) * vm j) * (∑ j, Ideal.exp (sw j - max (top sw) (top sm)) + ∑ j, Ideal.exp (sm j - max (top sw) (top sm)))⁻¹ := by
    rw [← sum_div _ _ _ hD]
    exact Finset.sum_congr rfl fun j _ => by rw [he, hS, hm, hM]
  have h2 : ∑ i : Fin a, ∑ y : Fin b, e ⟨k + (i.1 * b + y.1), by have := hb i y; omega⟩ * w i y
      = (∑ j, Ideal.exp (sw j - max (top sw) (top sm)) * vw j) * (∑ j, Ideal.exp (sw j - max (top sw) (top sm)) + ∑ j, Ideal.exp (sm j - max (top sw) (top sm)))⁻¹ := by
    rw [← sum_div _ _ _ hD]
    rw [← Fin.sum_mul_add_fin (S := a) (n := b) (hL := hn)]
    exact Finset.sum_congr rfl fun i _ => Finset.sum_congr rfl fun y _ => by rw [he, hS, hv, hM, ← hw]
  rw [h1, h2]; unfold mean₂
  rw [← EReal.right_distrib_of_nonneg_of_ne_top (EReal.inv_nonneg_of_nonneg hD.le) (inv_ne_top hD)]
  unfold Ideal.div
  rw [if_neg hD.ne', add_comm]

end Cert.Proof.Softmax
end
-- ==== Proof.Spec.lean ====
module

public import proofs.«01_k».proof.Proof.Softmax

/-! Neighbourhood attention as both programs compute it: image positions attend to a window of eight rows by sixteen
columns and to the 16 meta tokens in front, the meta tokens to each other. -/

@[expose] public section
noncomputable section
open Idealize.ShloMosaic Cert.Proof.Softmax

namespace Cert.Proof.Neighbourhood

/-- The row of the sequence at which position `x` of image row `r` lies, behind the 16 meta tokens. -/
def seat (r x : Fin 64) : Fin 4112 := ⟨16 + (r.1 * 64 + x.1), by omega⟩
/-- The row of a meta token. -/
def lead (k : Fin 16) : Fin 4112 := ⟨k.1, by omega⟩
/-- The column of head `h`'s entry `d` among the queries, the keys, the values. -/
def qcol (h : Fin 16) (d : Fin 128) : Fin 18432 := ⟨h.1 * 128 + d.1, by omega⟩
def kcol (h : Fin 16) (d : Fin 128) : Fin 18432 := ⟨2048 + (h.1 * 128 + d.1), by omega⟩
def vcol (h : Fin 16) (d : Fin 128) : Fin 18432 := ⟨4096 + (h.1 * 128 + d.1), by omega⟩
/-- The `i`-th image row of the window of row `r`. -/
def win (r : Fin 64) (i : Fin 8) : Fin 64 := ⟨min 56 (r.1 - 4) + i.1, by omega⟩
/-- The row of the bias table for it. -/
def off (r : Fin 64) (i : Fin 8) : Fin 15 := ⟨min 56 (r.1 - 4) + i.1 + 7 - r.1, by omega⟩
/-- The column of the bias table for key column `y` and query column `x`. -/
def col (x y : Fin 64) : Fin 31 := ⟨min 30 (y.1 + 15 - x.1), by omega⟩
/-- Key column `y` lies in the window of query column `x`. -/
def near (x y : Fin 64) : Prop := min 48 (x.1 - 8) ≤ y.1 ∧ y.1 < min 48 (x.1 - 8) + 16
instance (x y : Fin 64) : Decidable (near x y) := by unfold near; infer_instance

section
variable (p : (⟨3, ![2, 4112, 18432]⟩ : Shape).Idx → EReal) (rpb : (⟨3, ![16, 15, 31]⟩ : Shape).Idx → EReal) (mb : (⟨2, ![16, 16]⟩ : Shape).Idx → EReal)

/-- The product of a query and a key, scaled. -/
def score (b : Fin 2) (h : Fin 16) (q k : Fin 4112) : EReal := (∑ d : Fin 128, p (ix3 b q (qcol h d)) * p (ix3 b k (kcol h d))) * scale

/-- The score of an image position against one of its window's positions, −∞ outside the window's columns. -/
def winScore (b : Fin 2) (h : Fin 16) (r x : Fin 64) (i : Fin 8) (y : Fin 64) : EReal :=
  if near x y then score p b h (seat r x) (seat (win r i) y) + rpb (ix3 h (off r i) (col x y)) else low

/-- The score of any row against a meta token. -/
def leadScore (b : Fin 2) (h : Fin 16) (q : Fin 4112) (k : Fin 16) : EReal := score p b h q (lead k) + mb (ix2 h k)

/-- The image row and column of entry `j` of a window. -/
def wrow (j : Fin 512) : Fin 8 := ⟨j.1 / 64, by omega⟩
def wcol (j : Fin 512) : Fin 64 := ⟨j.1 % 64, by omega⟩

/-- The output at an image position. -/
def image (b : Fin 2) (h : Fin 16) (r x : Fin 64) (d : Fin 128) : EReal :=
  mean₂ (fun j => winScore p rpb b h r x (wrow j) (wcol j)) (fun j => p (ix3 b (seat (win r (wrow j)) (wcol j)) (vcol h d)))
    (leadScore p mb b h (seat r x)) (fun k => p (ix3 b (lead k) (vcol h d)))

/-- The output at a meta token. -/
def front (b : Fin 2) (h : Fin 16) (x : Fin 16) (d : Fin 128) : EReal :=
  mean (leadScore p mb b h (lead x)) (fun k => p (ix3 b (lead k) (vcol h d)))

/-- One head's output at a row of the padded sequence: 48 rows of zeros, the meta tokens, the image. -/
def row (b : Fin 2) (h : Fin 16) (n : Fin 4160) (d : Fin 128) : EReal :=
  if _h0 : n.1 < 48 then 0
  else if h1 : n.1 < 64 then front p mb b h ⟨n.1 - 48, by omega⟩ d
  else image p rpb mb b h ⟨(n.1 - 64) / 64, by omega⟩ ⟨(n.1 - 64) % 64, by omega⟩ d

/-- The whole output, the heads side by side. -/
def result (i : (⟨3, ![2, 4160, 2048]⟩ : Shape).Idx) : EReal :=
  row p rpb mb (i 0) ⟨(i 2).1 / 128, by have : (i 2).1 < 2048 := (i 2).2; omega⟩ (i 1) ⟨(i 2).1 % 128, by omega⟩

/-- The queries, the keys and the biases are real numbers. -/
structure Finite : Prop where
  q : ∀ b n h d, IsReal (p (ix3 b n (qcol h d)))
  k : ∀ b n h d, IsReal (p (ix3 b n (kcol h d)))
  rpb : ∀ i, IsReal (rpb i)
  mb : ∀ i, IsReal (mb i)

variable {p rpb mb} in
theorem Finite.score (H : Finite p rpb mb) (b : Fin 2) (h : Fin 16) (q k : Fin 4112) : IsReal (score p b h q k) :=
  (IsReal.sum fun d => (H.q b q h d).mul (H.k b k h d)).mul real_scale

variable {p rpb mb} in
theorem Finite.lead (H : Finite p rpb mb) (b : Fin 2) (h : Fin 16) (q : Fin 4112) (k : Fin 16) : IsReal (leadScore p mb b h q k) :=
  (H.score b h q _).add (H.mb _)

variable {p rpb mb} in
theorem Finite.win (H : Finite p rpb mb) (b : Fin 2) (h : Fin 16) (r x : Fin 64) (i : Fin 8) (y : Fin 64) : winScore p rpb b h r x i y ≠ ⊤ := by
  unfold winScore
  split
  · exact ((H.score b h _ _).add (H.rpb _)).ne_top
  · rw [low_eq]; exact bot_ne_top
end

end Cert.Proof.Neighbourhood
end
-- ==== Proof.Entry.lean ====
module

public import proofs.«01_k».proof.Proof.Spec
public import proofs.«01_k».proof.Proof.Gen.KernelIdeal.Value
public import Idealize.ShloMosaic.Lib.Pointwise
public import Idealize.ShloMosaic.Lib.Pipeline.ValueKit
public import Idealize.ShloMosaic.Lib.Claim

/-! What the kernel's operands hold when it starts: the projections with 48 rows of zeros in front, the bias table, the meta tokens' biases. -/

@[expose] public section
set_option maxRecDepth 16384
noncomputable section
open Idealize.ShloMosaic Idealize.ShloMosaic.TcCoe Idealize.SL.Sem Idealize.ShloMosaic.Pointwise

namespace Cert.KernelIdeal.Attention
open Cert.KernelIdeal Cert.KernelIdeal.Gen Cert.Proof.Neighbourhood Cert.Proof.Softmax

/-- The first key column of each query column's window. -/
def start : IVec S64 32 :=
  minsi (broadcastInDim S64 ![] bcast_S_S64 (constantI S_ 32 48#32)) (maxsi (broadcastInDim S64 ![] bcast_S_S64 (constantI S_ 32 0#32))
    (subi (iotaInDim S64 32 0) (broadcastInDim S64 ![] bcast_S_S64 (constantI S_ 32 8#32))))

/-- Which key columns lie in each query column's window. -/
def inside : IVec S64x64 1 :=
  andi (cmpi .sge (broadcastInDim S64x64 ![0, 1] bcast_S1x64_S64x64_0_1 (broadcastInDim S1x64 ![1] bcast_S64_S1x64_1 (iotaInDim S64 32 0)))
      (broadcastInDim S64x64 ![0, 1] bcast_S64x1_S64x64_0_1 (broadcastInDim S64x1 ![0] bcast_S64_S64x1_0 start)))
    (cmpi .slt (broadcastInDim S64x64 ![0, 1] bcast_S1x64_S64x64_0_1 (broadcastInDim S1x64 ![1] bcast_S64_S1x64_1 (iotaInDim S64 32 0)))
      (broadcastInDim S64x64 ![0, 1] bcast_S64x1_S64x64_0_1 (addi (broadcastInDim S64x1 ![0] bcast_S64_S64x1_0 start)
        (broadcastInDim S64x1 ![] bcast_S_S64x1 (constantI S_ 32 16#32)))))

/-- The bias column of each pair of columns. -/
def column : IVec S64x64 32 :=
  minsi (broadcastInDim S64x64 ![] bcast_S_S64x64 (constantI S_ 32 30#32)) (maxsi (broadcastInDim S64x64 ![] bcast_S_S64x64 (constantI S_ 32 0#32))
    (subi (addi (subi (broadcastInDim S64x64 ![0, 1] bcast_S1x64_S64x64_0_1 (broadcastInDim S1x64 ![1] bcast_S64_S1x64_1 (iotaInDim S64 32 0)))
        (broadcastInDim S64x64 ![0, 1] bcast_S64x1_S64x64_0_1 (broadcastInDim S64x1 ![0] bcast_S64_S64x1_0 (iotaInDim S64 32 0))))
      (broadcastInDim S64x64 ![] bcast_S_S64x64 (constantI S_ 32 16#32))) (broadcastInDim S64x64 ![] bcast_S_S64x64 (constantI S_ 32 1#32))))

/-- The one-hot rows of the bias columns. -/
def hot : IVec S31x64x64 1 :=
  cmpi .eq (broadcastInDim S31x64x64 ![0, 1, 2] bcast_S1x64x64_S31x64x64_0_1_2 (broadcastInDim S1x64x64 ![1, 2] bcast_S64x64_S1x64x64_1_2 column))
    (broadcastInDim S31x64x64 ![0, 1, 2] bcast_S31x1x1_S31x64x64_0_1_2 (broadcastInDim S31x1x1 ![0] bcast_S31_S31x1x1_0 (iotaInDim S31 32 0)))

/-- The biases spread over the pairs of columns, −∞ outside the windows. -/
def spread (rpb : FVec Ideal S16x15x31 .f32) : FVec Ideal S16x15x64x64 .f32 :=
  select (broadcastInDim S16x15x64x64 ![0, 1, 2, 3] bcast_S1x1x64x64_S16x15x64x64_0_1_2_3 (broadcastInDim S1x1x64x64 ![2, 3] bcast_S64x64_S1x1x64x64_2_3 inside))
    (Host.dotGeneral (F := Ideal) dot_S16x15x31_S31x64x64_S16x15x64x64_2_0_01_12_n_n (some .fp32) rpb (uitofp (F := Ideal) .f32 hot))
    (broadcastInDim S16x15x64x64 ![] bcast_S_S16x15x64x64 (constant (F := Ideal) S_ .f32 0xFF800000#32))

theorem inside_apply : ∀ (x y : Fin 64), (inside (ix2 x y) : BitVec 1) = BitVec.ofBool (decide (near x y)) := by decide +kernel
theorem column_apply : ∀ (x y : Fin 64), (column (ix2 x y) : BitVec 32) = BitVec.ofNat 32 (col x y).1 := by decide +kernel

theorem hot_apply (k : Fin 31) (x y : Fin 64) : uitofp (F := Ideal) .f32 hot (ix3 k x y) = if k = col x y then (1 : EReal) else 0 := by
  have e : (hot (ix3 k x y) : BitVec 1) = BitVec.ofBool (decide (k = col x y)) := by
    unfold hot
    pointwise
    rw [column_apply]
    have key : ∀ a b : Fin 31, (Scalar.cmpi .eq (BitVec.ofNat 32 a.1) (BitVec.ofNat 32 b.1) : BitVec 1) = BitVec.ofBool (decide (b = a)) := by decide +kernel
    exact key _ _
  show (((hot (ix3 k x y) : BitVec 1).toNat : ℝ) : EReal) = _
  rw [e]
  by_cases h : k = col x y <;> simp [h]

/-- The spread bias of head `h`, bias row `e`, query column `x`, key column `y`. -/
theorem spread_apply (rpb : FVec Ideal S16x15x31 .f32) (h : Fin 16) (e : Fin 15) (x y : Fin 64) :
    spread rpb (ix4 h e x y) = if near x y then rpb (ix3 h e (col x y)) else low := by
  unfold spread
  pointwise [dot_S16x15x31_S31x64x64_S16x15x64x64_2_0_01_12_n_n]
  have s (k : Fin 31) : rpb (ix3 h e k) * FloatOps.uitofp (F := Ideal) .f32 (hot (ix3 k x y)) = if k = col x y then rpb (ix3 h e k) else (0 : EReal) := by
    refine (congrArg (fun z : EReal => rpb (ix3 h e k) * z) (hot_apply k x y)).trans ?_
    split
    · exact mul_one _
    · exact mul_zero _
  rw [inside_apply, Finset.sum_congr (M := EReal) rfl fun k _ => s k, Finset.sum_ite_eq' Finset.univ (col x y) fun k => (rpb (ix3 h e k) : EReal)]
  by_cases hn : near x y <;> simp [hn, Scalar.select]

variable (m : (ℓ : Loc nD τ sig) → Buf (Elt Ideal) ℓ) (c : Dev nD)

/-- The projections' rows, 48 rows further down. -/
theorem padded (b : Fin 2) (n : Fin 4160) (d : Fin 18432) (h : 48 ≤ n.1) :
    V m c main_v0 (ix3 b n d) = m ((c : Thread nD τ).loc main_arg0) (ix3 b (⟨n.1 - 48, by omega⟩ : Fin 4112) d) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  entry_read
  show pad S2x4160x18432 ![0, 48, 0] ![0, 0, 0] ![0, 0, 0] (show Vec Ideal S2x4112x18432 .f32 from m ((c : Thread nD τ).loc main_arg0)) (sitofp (F := Ideal) .f32 (constantI S_ 32 0#32)) pads_S2x4112x18432_S2x4160x18432_000_4800_000 h_S_ (ix3 b n d) = _
  pointwise
  rw [dif_pos (by omega)]

/-- The meta tokens' biases. -/
theorem biases (h : Fin 16) (k : Fin 16) :
    V m c main_v41 (ix3 h 0 k) = m ((c : Thread nD τ).loc main_arg2) (ix2 h k) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  entry_read
  pointwise

set_option maxHeartbeats 8000000 in
/-- The table: a bias row in the first half of a tile, the next one in the second. -/
theorem table_eq : V m c main_v40 = concatenate S16x14x64x128 3
    [⟨S16x14x64x64, extractStridedSlice S16x14x64x64 ![0, 0, 0, 0] (spread (m ((c : Thread nD τ).loc main_arg1))) slices_S16x15x64x64_S16x14x64x64_0_0_0_0⟩,
     ⟨S16x14x64x64, extractStridedSlice S16x14x64x64 ![0, 1, 0, 0] (spread (m ((c : Thread nD τ).loc main_arg1))) slices_S16x15x64x64_S16x14x64x64_0_1_0_0⟩]
    concatenates_S16x14x64x64_S16x14x64x64_S16x14x64x128_d3 := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  entry_read
  simp -implicitDefEqProofs only [StableHlo.TRef.toBuf, StableHlo.TRef.ofBuf, cast_cast, cast_eq]
  rfl

theorem table (h : Fin 16) (e : Fin 14) (x : Fin 64) (l : Fin 128) :
    V m c main_v40 (ix4 h e x l) = if near x ⟨l.1 % 64, by omega⟩
      then m ((c : Thread nD τ).loc main_arg1) (ix3 h (⟨e.1 + l.1 / 64, by omega⟩ : Fin 15) (col x ⟨l.1 % 64, by omega⟩)) else low := by
  rw [table_eq]
  pointwise
  simp only [spread_apply]
  split
  · have e1 : l.1 % 64 = l.1 := by omega
    have e2 : e.1 + l.1 / 64 = e.1 := by omega
    simp only [e1, e2]
  · have e1 : l.1 % 64 = l.1 - 64 := by omega
    have e2 : e.1 + l.1 / 64 = 1 + e.1 := by omega
    simp only [e1, e2]

end Cert.KernelIdeal.Attention
end
-- ==== Proof.Row.lean ====
module

public import proofs.«01_k».proof.Proof.Gen.KernelIdeal.Value
import all proofs.«01_k».proof.Proof.Gen.KernelIdeal.Frame.RunA

/-! What one image row of the neighbourhood attention stores, as one function of the row number: the kernel's body is
unrolled over the 64 rows, and each of its 64 stores is the same computation on the row's own loads. -/

@[expose] public section
noncomputable section
namespace Cert.KernelIdeal.Rows
open Cert.KernelIdeal Cert.KernelIdeal.Gen Idealize.ShloMosaic Idealize.ShloMosaic.TcCoe Idealize.SL.Sem
variable {F : FTy → Type} [FloatOps F]

/-- The first row of the window of eight rows that row `r` attends to. -/
def first (r : ℕ) : ℕ := min 56 (r - 4)

/-- The scores of a row against the 512 keys of its window: products, scaled, plus the four table tiles. -/
def winScores (q : Vec F S1x64x128 .f32) (k : Vec F S1x512x128 .f32) (t : Fin 4 → Vec F S1x1x64x128 .f32) : FVec F S64x512 .f32 :=
  addf (mulf (matmul dot_S64x128_S512x128_S64x512_1_1_0_0_n_n none
      (truncf .bf16 (shapeCast S64x128 q shapeCasts_S1x64x128_S64x128 : FVec F S64x128 .f32) bitsLt_bf16_f32)
      (truncf .bf16 (shapeCast S512x128 k shapeCasts_S1x512x128_S512x128 : FVec F S512x128 .f32) bitsLt_bf16_f32)
      (constant S64x512 .f32 0x00000000#32)) (broadcast S64x512 (Scalar.ofBits .f32 0x3DB504F3#32)))
    (concatenate S64x512 1 [⟨S64x128, shapeCast S64x128 (t 0) shapeCasts_S1x1x64x128_S64x128⟩,
      ⟨S64x128, shapeCast S64x128 (t 1) shapeCasts_S1x1x64x128_S64x128⟩, ⟨S64x128, shapeCast S64x128 (t 2) shapeCasts_S1x1x64x128_S64x128⟩,
      ⟨S64x128, shapeCast S64x128 (t 3) shapeCasts_S1x1x64x128_S64x128⟩] concatenates_S64x128_S64x128_S64x128_S64x128_S64x512_d1)

/-- The scores of a row against the 16 meta keys. -/
def metaScores (km : Vec F S1x16x128 .f32) (mb : Vec F S1x1x16 .f32) (q : Vec F S1x64x128 .f32) : FVec F S64x16 .f32 :=
  addf (mulf (matmul dot_S64x128_S16x128_S64x16_1_1_0_0_n_n none
      (truncf .bf16 (shapeCast S64x128 q shapeCasts_S1x64x128_S64x128 : FVec F S64x128 .f32) bitsLt_bf16_f32)
      (truncf .bf16 (shapeCast S16x128 km shapeCasts_S1x16x128_S16x128 : FVec F S16x128 .f32) bitsLt_bf16_f32)
      (constant S64x16 .f32 0x00000000#32)) (broadcast S64x16 (Scalar.ofBits .f32 0x3DB504F3#32)))
    (broadcastTo S64x16 (shapeCast S1x16 mb shapeCasts_S1x1x16_S1x16 : FVec F S1x16 .f32) broadcasts_S1x16_S64x16)

/-- The larger of the two row maxima. -/
def rowMax (sw : FVec F S64x512 .f32) (sm : FVec F S64x16 .f32) : FVec F S64x1 .f32 :=
  maximumf (shapeCast S64x1 (multiReduction .maximumf [1] S64 sw 0xFF800000#32 reduces_S64x512_S64 (.inl rfl) rfl) shapeCasts_S64_S64x1)
    (shapeCast S64x1 (multiReduction .maximumf [1] S64 sm 0xFF800000#32 reduces_S64x16_S64 (.inl rfl) rfl) shapeCasts_S64_S64x1)

/-- The exponentials of the window's scores, the row's maximum taken off. -/
def winExp (sw : FVec F S64x512 .f32) (sm : FVec F S64x16 .f32) : FVec F S64x512 .f32 :=
  exp (subf sw (broadcastTo S64x512 (rowMax sw sm) broadcasts_S64x1_S64x512))

/-- The exponentials of the meta scores. -/
def metaExp (sw : FVec F S64x512 .f32) (sm : FVec F S64x16 .f32) : FVec F S64x16 .f32 :=
  exp (subf sm (broadcastTo S64x16 (rowMax sw sm) broadcasts_S64x1_S64x16))

/-- The sum of both. -/
def rowDen (pw : FVec F S64x512 .f32) (pm : FVec F S64x16 .f32) : FVec F S64x1 .f32 :=
  addf (shapeCast S64x1 (multiReduction .add [1] S64 pw 0x00000000#32 reduces_S64x512_S64 (.inl rfl) rfl) shapeCasts_S64_S64x1)
    (shapeCast S64x1 (multiReduction .add [1] S64 pm 0x00000000#32 reduces_S64x16_S64 (.inl rfl) rfl) shapeCasts_S64_S64x1)

/-- The weighted values of a row over the sum of its weights. -/
def weigh (pw : FVec F S64x512 .f32) (pm : FVec F S64x16 .f32) (v : Vec F S1x512x128 .f32) (vm : Vec F S1x16x128 .f32) : FVec F S1x64x128 .bf16 :=
  shapeCast S1x64x128 (truncf .bf16 (divf
    (addf (matmul dot_S64x512_S512x128_S64x128_1_0_0_1_n_n none (truncf .bf16 pw bitsLt_bf16_f32)
        (truncf .bf16 (shapeCast S512x128 v shapeCasts_S1x512x128_S512x128 : FVec F S512x128 .f32) bitsLt_bf16_f32) (constant S64x128 .f32 0x00000000#32))
      (matmul dot_S64x16_S16x128_S64x128_1_0_0_1_n_n none (truncf .bf16 pm bitsLt_bf16_f32)
        (truncf .bf16 (shapeCast S16x128 vm shapeCasts_S1x16x128_S16x128 : FVec F S16x128 .f32) bitsLt_bf16_f32) (constant S64x128 .f32 0x00000000#32)))
    (broadcastTo S64x128 (rowDen pw pm) broadcasts_S64x1_S64x128)) bitsLt_bf16_f32) shapeCasts_S64x128_S1x64x128

/-- One row's output from its loads. -/
def attend (km vm : Vec F S1x16x128 .f32) (mb : Vec F S1x1x16 .f32) (q : Vec F S1x64x128 .f32) (k v : Vec F S1x512x128 .f32)
    (t : Fin 4 → Vec F S1x1x64x128 .f32) : FVec F S1x64x128 .bf16 :=
  weigh (winExp (winScores q k t) (metaScores km mb q)) (metaExp (winScores q k t) (metaScores km mb q)) v vm

/-- Sixty-four positions from `64 r + 64` on lie in the sequence. -/
theorem inb_row (r : Fin 64) : ∀ a, (![0, 64 * r.1 + 64, 0] : Fin 3 → ℕ) a + S1x64x128.size a ≤ S1x4160x128.size a := by
  intro a; have := r.2; fin_cases a <;> simp [S1x64x128, S1x4160x128] <;> omega

/-- So do the 512 positions of the window. -/
theorem inb_win (r : Fin 64) : ∀ a, (![0, 64 * first r.1 + 64, 0] : Fin 3 → ℕ) a + S1x512x128.size a ≤ S1x4160x128.size a := by
  intro a; have : first r.1 ≤ 56 := min_le_left _ _; fin_cases a <;> simp [S1x512x128, S1x4160x128] <;> omega

/-- The four table tiles of a row lie in the table. -/
theorem inb_tab (r : Fin 64) (i : Fin 4) :
    ∀ a, (![0, first r.1 + 2 * i.1 + 7 - r.1, 0, 0] : Fin 4 → ℕ) a + S1x1x64x128.size a ≤ S1x14x64x128.size a := by
  intro a; have := r.2; have := i.2; unfold first
  fin_cases a <;> simp [S1x1x64x128, S1x14x64x128] <;> omega

theorem inb_meta : ∀ a, (![0, 48, 0] : Fin 3 → ℕ) a + S1x16x128.size a ≤ S1x4160x128.size a := by decide
theorem inb_bias : ∀ a, (![0, 0, 0] : Fin 3 → ℕ) a + S1x1x16.size a ≤ S1x1x16.size a := by decide
theorem inb_pad : ∀ a, (![0, 0, 0] : Fin 3 → ℕ) a + S1x48x128.size a ≤ S1x4160x128.size a := by decide

section
variable (arg2 : Memref sig .tc .vmem S1x4160x128 .f32) (harg2 : arg2.IsWhole) (arg3 : Memref sig .tc .vmem S1x4160x128 .f32) (harg3 : arg3.IsWhole)
  (arg4 : Memref sig .tc .vmem S1x4160x128 .f32) (harg4 : arg4.IsWhole) (arg5 : Memref sig .tc .vmem S1x14x64x128 .f32) (harg5 : arg5.IsWhole)
  (arg6 : Memref sig .tc .vmem S1x1x16 .f32) (harg6 : arg6.IsWhole)
  (x0 : Vec F S1x4160x128 .f32) (x1 : Vec F S1x4160x128 .f32) (x2 : Vec F S1x4160x128 .f32) (x3 : Vec F S1x14x64x128 .f32) (x4 : Vec F S1x1x16 .f32)

/-- The store of row `r`: where it goes and what it holds. -/
def piece (r : Fin 64) : View.Piece (Elt F) S1x4160x128 .bf16 :=
  ⟨Rect.unit (s := S1x4160x128) ![0, 64 * r.1 + 64, 0] S1x64x128.size (inb_row r),
    attend (View.readAt (Elt F) arg3.view (Rect.unit (s := S1x4160x128) ![0, 48, 0] S1x16x128.size inb_meta).toLoadRect (harg3.unread x1))
      (View.readAt (Elt F) arg4.view (Rect.unit (s := S1x4160x128) ![0, 48, 0] S1x16x128.size inb_meta).toLoadRect (harg4.unread x2))
      (View.readAt (Elt F) arg6.view (Rect.unit (s := S1x1x16) ![0, 0, 0] S1x1x16.size inb_bias).toLoadRect (harg6.unread x4))
      (View.readAt (Elt F) arg2.view (Rect.unit (s := S1x4160x128) ![0, 64 * r.1 + 64, 0] S1x64x128.size (inb_row r)).toLoadRect (harg2.unread x0))
      (View.readAt (Elt F) arg3.view (Rect.unit (s := S1x4160x128) ![0, 64 * first r.1 + 64, 0] S1x512x128.size (inb_win r)).toLoadRect (harg3.unread x1))
      (View.readAt (Elt F) arg4.view (Rect.unit (s := S1x4160x128) ![0, 64 * first r.1 + 64, 0] S1x512x128.size (inb_win r)).toLoadRect (harg4.unread x2))
      (fun i => View.readAt (Elt F) arg5.view (Rect.unit (s := S1x14x64x128) ![0, first r.1 + 2 * i.1 + 7 - r.1, 0, 0] S1x1x64x128.size (inb_tab r i)).toLoadRect
        (harg5.unread x3))⟩

/-- The store of the meta rows. -/
def metaPiece : View.Piece (Elt F) S1x4160x128 .bf16 :=
  ⟨Rect.unit (s := S1x4160x128) ![0, 48, 0] S1x16x128.size inb_meta,
    k0_pay7 (k0_pay6 (View.readAt (Elt F) arg3.view (Rect.unit (s := S1x4160x128) ![0, 48, 0] S1x16x128.size inb_meta).toLoadRect (harg3.unread x1))
      (View.readAt (Elt F) arg4.view (Rect.unit (s := S1x4160x128) ![0, 48, 0] S1x16x128.size inb_meta).toLoadRect (harg4.unread x2))
      (View.readAt (Elt F) arg6.view (Rect.unit (s := S1x1x16) ![0, 0, 0] S1x1x16.size inb_bias).toLoadRect (harg6.unread x4))
      (View.readAt (Elt F) arg2.view (Rect.unit (s := S1x4160x128) ![0, 48, 0] S1x16x128.size inb_meta).toLoadRect (harg2.unread x0)))⟩

/-- The store of the padding rows: zeros. -/
def padPiece : View.Piece (Elt F) S1x4160x128 .bf16 := ⟨Rect.unit (s := S1x4160x128) ![0, 0, 0] S1x48x128.size inb_pad, k0_pay5⟩
end

set_option maxHeartbeats 40000000 in
set_option maxRecDepth 16384 in
/-- The body's stores, last first, are the 64 rows' (last row first), the meta rows' and the padding's. -/
theorem stores (c : Dev nD) (i : grid0.Coords) (arg2 : Memref sig .tc .vmem S1x4160x128 .f32) (harg2 : arg2.IsWhole) (arg3 : Memref sig .tc .vmem S1x4160x128 .f32) (harg3 : arg3.IsWhole) (arg4 : Memref sig .tc .vmem S1x4160x128 .f32) (harg4 : arg4.IsWhole) (arg5 : Memref sig .tc .vmem S1x14x64x128 .f32) (harg5 : arg5.IsWhole) (arg6 : Memref sig .tc .vmem S1x1x16 .f32) (harg6 : arg6.IsWhole) (arg7 : Memref sig .tc .vmem S1x4160x128 .bf16) (harg7 : arg7.IsWhole)
    (x0 : Vec F S1x4160x128 .f32) (x1 : Vec F S1x4160x128 .f32) (x2 : Vec F S1x4160x128 .f32) (x3 : Vec F S1x14x64x128 .f32) (x4 : Vec F S1x1x16 .f32) :
    (kernelRun0_A c i arg2 harg2 arg3 harg3 arg4 harg4 arg5 harg5 arg6 harg6 arg7 harg7 x0 x1 x2 x3 x4).1
      = ((List.finRange 64).reverse.map fun r => piece arg2 harg2 arg3 harg3 arg4 harg4 arg5 harg5 arg6 harg6 x0 x1 x2 x3 x4 r)
        ++ [metaPiece arg2 harg2 arg3 harg3 arg4 harg4 arg6 harg6 x0 x1 x2 x4, padPiece] := by
  unfold kernelRun0_A
  dsimp only
  rfl

end Cert.KernelIdeal.Rows
end
-- ==== Proof.RowPoints.lean ====
module

public import proofs.«01_k».proof.Proof.Spec
public import proofs.«01_k».proof.Proof.Row
public import Idealize.ShloMosaic.Lib.Pointwise
public import Idealize.ShloMosaic.Lib.Pipeline.ValueKit

/-! What the kernel's stores hold, position by position, over loads that hold one head's queries, keys, values and biases. -/

@[expose] public section
set_option maxRecDepth 16384
noncomputable section
open Idealize.ShloMosaic Idealize.ShloMosaic.TcCoe Idealize.SL.Sem Idealize.ShloMosaic.Pointwise

namespace Cert.KernelIdeal.Attention
open Cert.KernelIdeal Cert.KernelIdeal.Gen Cert.KernelIdeal.Rows Cert.Proof.Neighbourhood Cert.Proof.Softmax

/-- A row's output is the weighted mean of the values over the scores. -/
theorem weigh_apply (sw : FVec Ideal S64x512 .f32) (sm : FVec Ideal S64x16 .f32) (v : Vec Ideal S1x512x128 .f32) (vm : Vec Ideal S1x16x128 .f32) (x : Fin 64) (d : Fin 128) :
    weigh (winExp sw sm) (metaExp sw sm) v vm (ix3 (0 : Fin 1) x d)
      = mean₂ (fun j => sw (ix2 x j)) (fun j => v (ix3 (0 : Fin 1) j d)) (fun k => sm (ix2 x k)) (fun k => vm (ix3 (0 : Fin 1) k d)) := by
  unfold weigh winExp metaExp rowDen rowMax
  pointwise [dot_S64x512_S512x128_S64x128_1_0_0_1_n_n, dot_S64x16_S16x128_S64x128_1_0_0_1_n_n]
  rfl

/-- So is the meta rows' output, over the meta scores alone. -/
theorem front_pay (km vm : Vec Ideal S1x16x128 .f32) (mv : Vec Ideal S1x1x16 .f32) (q : Vec Ideal S1x16x128 .f32) (x : Fin 16) (d : Fin 128) :
    k0_pay7 (k0_pay6 km vm mv q) (ix3 (0 : Fin 1) x d)
      = mean (fun k => (∑ e : Fin 128, q (ix3 (0 : Fin 1) x e) * km (ix3 (0 : Fin 1) k e)) * scale + mv (ix3 (0 : Fin 1) (0 : Fin 1) k)) (fun k => vm (ix3 (0 : Fin 1) k d)) := by
  unfold k0_pay7 k0_pay6 k0_pay2 k0_pay3 k0_pay4
  pointwise [dot_S16x128_S16x128_S16x16_1_1_0_0_n_n, dot_S16x16_S16x128_S16x128_1_0_0_1_n_n]
  rfl

/-- The padding rows are zeros. -/
theorem pad_pay (x : Fin 48) (d : Fin 128) : k0_pay5 (F := Ideal) (ix3 (0 : Fin 1) x d) = (0 : EReal) := by
  unfold k0_pay5
  pointwise

section
variable (p : (⟨3, ![2, 4112, 18432]⟩ : Shape).Idx → EReal) (rpb : (⟨3, ![16, 15, 31]⟩ : Shape).Idx → EReal) (mb : (⟨2, ![16, 16]⟩ : Shape).Idx → EReal)
  (b : Fin 2) (h : Fin 16) (r : Fin 64)

/-- The bias of entry `j` of the window, −∞ outside the window's columns. -/
def winBias (x : Fin 64) (j : Fin 512) : EReal := if near x (wcol j) then rpb (ix3 h (off r (wrow j)) (col x (wcol j))) else low

theorem winScores_apply (q : Vec Ideal S1x64x128 .f32) (k : Vec Ideal S1x512x128 .f32) (t : Fin 4 → Vec Ideal S1x1x64x128 .f32)
    (hq : ∀ x d, q (ix3 (0 : Fin 1) x d) = p (ix3 b (seat r x) (qcol h d)))
    (hk : ∀ j d, k (ix3 (0 : Fin 1) j d) = p (ix3 b (seat (win r (wrow j)) (wcol j)) (kcol h d)))
    (ht : ∀ (i : Fin 4) (x : Fin 64) (l : Fin 128) (j : Fin 512), j.1 = 128 * i.1 + l.1 → t i (ix4 (0 : Fin 1) (0 : Fin 1) x l) = winBias rpb h r x j)
    (x : Fin 64) (j : Fin 512) : winScores q k t (ix2 x j) = winScore p rpb b h r x (wrow j) (wcol j) := by
  have e : winScores q k t (ix2 x j) = score p b h (seat r x) (seat (win r (wrow j)) (wcol j)) + winBias rpb h r x j := by
    unfold winScores
    pointwise [dot_S64x128_S512x128_S64x512_1_1_0_0_n_n]
    simp only [hq, hk]
    have hj := j.2
    refine congrArg₂ (fun a c : EReal => a + c) rfl ?_
    by_cases h1 : j.1 < 128
    · rw [dif_pos h1]; exact ht 0 x _ j (by simp)
    · rw [dif_neg h1]
      by_cases h2 : j.1 - 128 < 128
      · rw [dif_pos h2]; exact ht 1 x _ j (by simp; omega)
      · rw [dif_neg h2]
        by_cases h3 : j.1 - 128 - 128 < 128
        · rw [dif_pos h3]; exact ht 2 x _ j (by simp; omega)
        · rw [dif_neg h3]; exact ht 3 x _ j (by simp; omega)
  rw [e]
  unfold winScore winBias
  split
  · rfl
  · rw [low_eq, EReal.add_bot]

theorem metaScores_apply (km : Vec Ideal S1x16x128 .f32) (mv : Vec Ideal S1x1x16 .f32) (q : Vec Ideal S1x64x128 .f32)
    (hq : ∀ x d, q (ix3 (0 : Fin 1) x d) = p (ix3 b (seat r x) (qcol h d)))
    (hkm : ∀ k d, km (ix3 (0 : Fin 1) k d) = p (ix3 b (lead k) (kcol h d)))
    (hmb : ∀ k, mv (ix3 (0 : Fin 1) (0 : Fin 1) k) = mb (ix2 h k))
    (x : Fin 64) (k : Fin 16) : metaScores km mv q (ix2 x k) = leadScore p mb b h (seat r x) k := by
  unfold metaScores
  pointwise [dot_S64x128_S16x128_S64x16_1_1_0_0_n_n]
  simp only [hq, hkm, hmb]
  rfl

/-- An image row's output, over loads that hold its operands. -/
theorem attend_apply (km vm : Vec Ideal S1x16x128 .f32) (mv : Vec Ideal S1x1x16 .f32) (q : Vec Ideal S1x64x128 .f32) (k v : Vec Ideal S1x512x128 .f32)
    (t : Fin 4 → Vec Ideal S1x1x64x128 .f32)
    (hkm : ∀ k d, km (ix3 (0 : Fin 1) k d) = p (ix3 b (lead k) (kcol h d)))
    (hvm : ∀ k d, vm (ix3 (0 : Fin 1) k d) = p (ix3 b (lead k) (vcol h d)))
    (hmb : ∀ k, mv (ix3 (0 : Fin 1) (0 : Fin 1) k) = mb (ix2 h k))
    (hq : ∀ x d, q (ix3 (0 : Fin 1) x d) = p (ix3 b (seat r x) (qcol h d)))
    (hk : ∀ j d, k (ix3 (0 : Fin 1) j d) = p (ix3 b (seat (win r (wrow j)) (wcol j)) (kcol h d)))
    (hv : ∀ j d, v (ix3 (0 : Fin 1) j d) = p (ix3 b (seat (win r (wrow j)) (wcol j)) (vcol h d)))
    (ht : ∀ (i : Fin 4) (x : Fin 64) (l : Fin 128) (j : Fin 512), j.1 = 128 * i.1 + l.1 → t i (ix4 (0 : Fin 1) (0 : Fin 1) x l) = winBias rpb h r x j)
    (x : Fin 64) (d : Fin 128) : attend km vm mv q k v t (ix3 (0 : Fin 1) x d) = image p rpb mb b h r x d := by
  unfold attend
  rw [weigh_apply]
  unfold image
  simp only [winScores_apply p rpb b h r q k t hq hk ht, metaScores_apply p mb b h r km mv q hq hkm hmb, hv, hvm]

/-- The meta rows' output, over loads that hold their operands. -/
theorem front_pay_apply (km vm : Vec Ideal S1x16x128 .f32) (mv : Vec Ideal S1x1x16 .f32) (q : Vec Ideal S1x16x128 .f32)
    (hkm : ∀ k d, km (ix3 (0 : Fin 1) k d) = p (ix3 b (lead k) (kcol h d)))
    (hvm : ∀ k d, vm (ix3 (0 : Fin 1) k d) = p (ix3 b (lead k) (vcol h d)))
    (hmb : ∀ k, mv (ix3 (0 : Fin 1) (0 : Fin 1) k) = mb (ix2 h k))
    (hq : ∀ x d, q (ix3 (0 : Fin 1) x d) = p (ix3 b (lead x) (qcol h d)))
    (x : Fin 16) (d : Fin 128) : k0_pay7 (k0_pay6 km vm mv q) (ix3 (0 : Fin 1) x d) = front p mb b h x d := by
  rw [front_pay]
  simp only [hq, hkm, hmb, hvm]
  rfl
end

end Cert.KernelIdeal.Attention
end
-- ==== Proof.Block.lean ====
module

public import proofs.«01_k».proof.Proof.Entry
public import proofs.«01_k».proof.Proof.RowPoints

/-! The kernel's blocks: what its windows hold, and what a grid point writes back. -/

@[expose] public section
set_option maxRecDepth 16384
noncomputable section
open Idealize.ShloMosaic Idealize.ShloMosaic.TcCoe Idealize.SL.Sem Idealize.ShloMosaic.Pointwise

namespace Cert.KernelIdeal.Attention
open Cert.KernelIdeal Cert.KernelIdeal.Gen Cert.KernelIdeal.Rows Cert.Proof.Neighbourhood Cert.Proof.Softmax
variable (m : (ℓ : Loc nD τ sig) → Buf (Elt Ideal) ℓ) (c : Dev nD)

/-- The blocks of each window at a grid point: the batch entry and the head. -/
theorem places : ∀ t : Fin cfg0.N, win0_0.index t = ![(grid0.coords t 0).val, 0, (grid0.coords t 1).val] ∧ win0_1.index t = ![(grid0.coords t 0).val, 0, 16 + (grid0.coords t 1).val]
    ∧ win0_2.index t = ![(grid0.coords t 0).val, 0, 32 + (grid0.coords t 1).val] ∧ win0_3.index t = ![(grid0.coords t 1).val, 0, 0, 0]
    ∧ win0_4.index t = ![(grid0.coords t 1).val, 0, 0] ∧ win0_5.index t = ![(grid0.coords t 0).val, 0, (grid0.coords t 1).val] :=
  (by decide +kernel : ∀ t : Fin grid0.N, _)

/-- The batch entry and the head of a grid point. -/
def entry (t : Fin cfg0.N) : Fin 2 := ⟨(grid0.coords t 0).val, (grid0.coords t 0).isLt⟩
def head (t : Fin cfg0.N) : Fin 16 := ⟨(grid0.coords t 1).val, (grid0.coords t 1).isLt⟩

/-- The queries' block. -/
theorem queries (t : Fin cfg0.N) (n : Fin 4160) (d : Fin 128) (s : Fin 4112) (h : n.1 = 48 + s.1) :
    iblk m c 0 t (ix3 (0 : Fin 1) n d) = m ((c : Thread nD τ).loc main_arg0) (ix3 (entry t) s (qcol (head t) d)) := by
  have e : iblk m c 0 t (ix3 (0 : Fin 1) n d) = V m c main_v0 (ix3 (entry t) n (qcol (head t) d)) := by
    unfold iblk entry head qcol
    blk_ext [places t]
  rw [e, padded m c _ n _ (by omega)]
  congr 2
  exact Fin.ext (by simp; omega)

/-- The keys' block. -/
theorem keys (t : Fin cfg0.N) (n : Fin 4160) (d : Fin 128) (s : Fin 4112) (h : n.1 = 48 + s.1) :
    iblk m c 1 t (ix3 (0 : Fin 1) n d) = m ((c : Thread nD τ).loc main_arg0) (ix3 (entry t) s (kcol (head t) d)) := by
  have e : iblk m c 1 t (ix3 (0 : Fin 1) n d) = V m c main_v0 (ix3 (entry t) n (kcol (head t) d)) := by
    unfold iblk entry head kcol
    blk_ext [places t]
  rw [e, padded m c _ n _ (by omega)]
  congr 2
  exact Fin.ext (by simp; omega)

/-- The values' block. -/
theorem values (t : Fin cfg0.N) (n : Fin 4160) (d : Fin 128) (s : Fin 4112) (h : n.1 = 48 + s.1) :
    iblk m c 2 t (ix3 (0 : Fin 1) n d) = m ((c : Thread nD τ).loc main_arg0) (ix3 (entry t) s (vcol (head t) d)) := by
  have e : iblk m c 2 t (ix3 (0 : Fin 1) n d) = V m c main_v0 (ix3 (entry t) n (vcol (head t) d)) := by
    unfold iblk entry head vcol
    blk_ext [places t]
  rw [e, padded m c _ n _ (by omega)]
  congr 2
  exact Fin.ext (by simp; omega)

/-- The table's block. -/
theorem tables (t : Fin cfg0.N) (e : Fin 14) (x : Fin 64) (l : Fin 128) (o : Fin 15) (y : Fin 64) (ho : o.1 = e.1 + l.1 / 64) (hy : y.1 = l.1 % 64) :
    iblk m c 3 t (ix4 (0 : Fin 1) e x l) = if near x y then m ((c : Thread nD τ).loc main_arg1) (ix3 (head t) o (col x y)) else low := by
  have e' : iblk m c 3 t (ix4 (0 : Fin 1) e x l) = V m c main_v40 (ix4 (head t) e x l) := by
    unfold iblk head
    blk_ext [places t]
  rw [e', table m c]
  have h1 : (⟨l.1 % 64, by omega⟩ : Fin 64) = y := Fin.ext hy.symm
  have h2 : (⟨e.1 + l.1 / 64, by omega⟩ : Fin 15) = o := Fin.ext ho.symm
  simp only [h1, h2]

/-- The meta biases' block. -/
theorem leads (t : Fin cfg0.N) (k : Fin 16) :
    iblk m c 4 t (ix3 (0 : Fin 1) (0 : Fin 1) k) = m ((c : Thread nD τ).loc main_arg2) (ix2 (head t) k) := by
  have e : iblk m c 4 t (ix3 (0 : Fin 1) (0 : Fin 1) k) = V m c main_v41 (ix3 (head t) 0 k) := by
    unfold iblk head
    blk_ext [places t]
  rw [e, biases m c]

/-- Where an element of a result block lies in the result. -/
theorem spot (t : Fin cfg0.N) (y : S1x4160x128.Idx) : (win0_5.blk t).view.emb y = ix3 (entry t) (y 1 : Fin 4160)
    (⟨128 * (head t).val + (y 2).val, by have h : (head t).val < 16 := (head t).isLt; have h' : (y 2).val < 128 := (y 2).isLt; omega⟩ : Fin 2048) := by
  unfold entry head
  blk_ext [places t]

end Cert.KernelIdeal.Attention
end
-- ==== Proof.Stores.lean ====
module

public import proofs.«01_k».proof.Proof.Block

/-! What a grid point leaves in the result's block: one head's output, row by row. -/

@[expose] public section
set_option maxRecDepth 16384
noncomputable section
open Idealize.ShloMosaic Idealize.ShloMosaic.TcCoe Idealize.SL.Sem Idealize.ShloMosaic.Pointwise

namespace Cert.KernelIdeal.Attention
open Cert.KernelIdeal Cert.KernelIdeal.Gen Cert.KernelIdeal.Rows Cert.Proof.Neighbourhood Cert.Proof.Softmax

/-- A load from a whole buffer reads its contents, the rectangle's offset further on. -/
theorem load {s : Shape} {e : EltTy} (M : Memref sig .tc .vmem s e) (hM : M.IsWhole) (X : s.Idx → Elt Ideal e) (off size : Fin s.rank → ℕ)
    (inb : ∀ a, off a + size a ≤ s.size a) (x : (Rect.unit off size inb).shape.Idx) (i : s.Idx) (hi : ∀ a, (i a : ℕ) = off a + x a) :
    View.readAt (Elt Ideal) M.view (Rect.unit (s := s) off size inb).toLoadRect (hM.unread X) x = X i := by
  rw [View.readAt_eq_ld, hM.read_unread]
  exact View.ld_unit_apply_of X off size inb x i hi

/-- The same in coordinates, for the rows of a block from `o` on. -/
theorem load_rows (M : Memref sig .tc .vmem S1x4160x128 .f32) (hM : M.IsWhole) (X : Vec Ideal S1x4160x128 .f32) (o n : ℕ)
    (inb : ∀ a, (![0, o, 0] : Fin 3 → ℕ) a + (![1, n, 128] : Fin 3 → ℕ) a ≤ S1x4160x128.size a) (k : Fin n) (d : Fin 128) (i : Fin 4160) (hi : i.1 = o + k.1) :
    View.readAt (Elt Ideal) M.view (Rect.unit (s := S1x4160x128) ![0, o, 0] ![1, n, 128] inb).toLoadRect (hM.unread X) (ix3 (0 : Fin 1) k d) = X (ix3 (0 : Fin 1) i d) := by
  refine load M hM X ![0, o, 0] ![1, n, 128] inb (ix3 (0 : Fin 1) k d) (ix3 (0 : Fin 1) i d) fun a => ?_
  match a with
  | ⟨0, _⟩ => rfl
  | ⟨1, _⟩ => exact hi
  | ⟨2, _⟩ => exact (Nat.zero_add _).symm

/-- The same for a tile of the table. -/
theorem load_tile (M : Memref sig .tc .vmem S1x14x64x128 .f32) (hM : M.IsWhole) (X : Vec Ideal S1x14x64x128 .f32) (o : ℕ)
    (inb : ∀ a, (![0, o, 0, 0] : Fin 4 → ℕ) a + (![1, 1, 64, 128] : Fin 4 → ℕ) a ≤ S1x14x64x128.size a) (x : Fin 64) (l : Fin 128) (e : Fin 14) (he : e.1 = o) :
    View.readAt (Elt Ideal) M.view (Rect.unit (s := S1x14x64x128) ![0, o, 0, 0] ![1, 1, 64, 128] inb).toLoadRect (hM.unread X) (ix4 (0 : Fin 1) (0 : Fin 1) x l)
      = X (ix4 (0 : Fin 1) e x l) := by
  refine load M hM X ![0, o, 0, 0] ![1, 1, 64, 128] inb (ix4 (0 : Fin 1) (0 : Fin 1) x l) (ix4 (0 : Fin 1) e x l) fun a => ?_
  match a with
  | ⟨0, _⟩ => rfl
  | ⟨1, _⟩ => exact he
  | ⟨2, _⟩ => exact (Nat.zero_add _).symm
  | ⟨3, _⟩ => exact (Nat.zero_add _).symm

/-- The same for the meta biases. -/
theorem load_bias (M : Memref sig .tc .vmem S1x1x16 .f32) (hM : M.IsWhole) (X : Vec Ideal S1x1x16 .f32) (k : Fin 16) :
    View.readAt (Elt Ideal) M.view (Rect.unit (s := S1x1x16) ![0, 0, 0] S1x1x16.size inb_bias).toLoadRect (hM.unread X) (ix3 (0 : Fin 1) (0 : Fin 1) k)
      = X (ix3 (0 : Fin 1) (0 : Fin 1) k) := by
  refine load M hM X ![0, 0, 0] S1x1x16.size inb_bias (ix3 (0 : Fin 1) (0 : Fin 1) k) (ix3 (0 : Fin 1) (0 : Fin 1) k) fun a => ?_
  match a with
  | ⟨0, _⟩ => rfl
  | ⟨1, _⟩ => rfl
  | ⟨2, _⟩ => exact (Nat.zero_add _).symm

section
variable (p : (⟨3, ![2, 4112, 18432]⟩ : Shape).Idx → EReal) (rpb : (⟨3, ![16, 15, 31]⟩ : Shape).Idx → EReal) (mb : (⟨2, ![16, 16]⟩ : Shape).Idx → EReal)
  (b : Fin 2) (h : Fin 16)

/-- The rows of the padded sequence, by their place. -/
theorem row_pad (n : Fin 4160) (d : Fin 128) (hn : n.1 < 48) : row p rpb mb b h n d = 0 := by unfold row; rw [dif_pos hn]

theorem row_front (n : Fin 4160) (d : Fin 128) (x : Fin 16) (hn : n.1 = 48 + x.1) : row p rpb mb b h n d = front p mb b h x d := by
  unfold row; rw [dif_neg (by omega), dif_pos (by omega)]
  congr 1; exact Fin.ext (by simp; omega)

theorem row_image (n : Fin 4160) (d : Fin 128) (r x : Fin 64) (hn : n.1 = 64 * r.1 + 64 + x.1) : row p rpb mb b h n d = image p rpb mb b h r x d := by
  unfold row; rw [dif_neg (by omega), dif_neg (by omega)]
  congr 1 <;> exact Fin.ext (by simp; omega)
end

section
variable (p : (⟨3, ![2, 4112, 18432]⟩ : Shape).Idx → EReal) (rpb : (⟨3, ![16, 15, 31]⟩ : Shape).Idx → EReal) (mb : (⟨2, ![16, 16]⟩ : Shape).Idx → EReal)
  (b : Fin 2) (h : Fin 16)
  (arg2 : Memref sig .tc .vmem S1x4160x128 .f32) (harg2 : arg2.IsWhole) (arg3 : Memref sig .tc .vmem S1x4160x128 .f32) (harg3 : arg3.IsWhole)
  (arg4 : Memref sig .tc .vmem S1x4160x128 .f32) (harg4 : arg4.IsWhole) (arg5 : Memref sig .tc .vmem S1x14x64x128 .f32) (harg5 : arg5.IsWhole)
  (arg6 : Memref sig .tc .vmem S1x1x16 .f32) (harg6 : arg6.IsWhole)
  (x0 : Vec Ideal S1x4160x128 .f32) (x1 : Vec Ideal S1x4160x128 .f32) (x2 : Vec Ideal S1x4160x128 .f32) (x3 : Vec Ideal S1x14x64x128 .f32) (x4 : Vec Ideal S1x1x16 .f32)
  (hq : ∀ (n : Fin 4160) (d : Fin 128) (s : Fin 4112), n.1 = 48 + s.1 → x0 (ix3 (0 : Fin 1) n d) = p (ix3 b s (qcol h d)))
  (hk : ∀ (n : Fin 4160) (d : Fin 128) (s : Fin 4112), n.1 = 48 + s.1 → x1 (ix3 (0 : Fin 1) n d) = p (ix3 b s (kcol h d)))
  (hv : ∀ (n : Fin 4160) (d : Fin 128) (s : Fin 4112), n.1 = 48 + s.1 → x2 (ix3 (0 : Fin 1) n d) = p (ix3 b s (vcol h d)))
  (ht : ∀ (e : Fin 14) (x : Fin 64) (l : Fin 128) (o : Fin 15) (y : Fin 64), o.1 = e.1 + l.1 / 64 → y.1 = l.1 % 64 →
    x3 (ix4 (0 : Fin 1) e x l) = if near x y then rpb (ix3 h o (col x y)) else low)
  (hm : ∀ k : Fin 16, x4 (ix3 (0 : Fin 1) (0 : Fin 1) k) = mb (ix2 h k))

/-- Where the window's entry `j` lies in the block. -/
theorem window_row (r : Fin 64) (j : Fin 512) : 64 * first r.1 + 64 + j.1 = 48 + (seat (win r (wrow j)) (wcol j)).1 := by
  simp only [seat, win, wrow, wcol, first]
  omega

include hq hk hv ht hm in
/-- The store of an image row holds that row's output. -/
theorem piece_image (r x : Fin 64) (d : Fin 128) :
    (Rows.piece (F := Ideal) arg2 harg2 arg3 harg3 arg4 harg4 arg5 harg5 arg6 harg6 x0 x1 x2 x3 x4 r).2 (ix3 (0 : Fin 1) x d) = image p rpb mb b h r x d := by
  have hf : first r.1 ≤ 56 := min_le_left _ _
  unfold Rows.piece
  dsimp only
  refine attend_apply p rpb mb b h r _ _ _ _ _ _ _ ?_ ?_ ?_ ?_ ?_ ?_ ?_ x d
  · intro k d
    rw [load_rows arg3 harg3 x1 48 16 inb_meta k d (⟨48 + k.1, by omega⟩ : Fin 4160) rfl]
    exact hk _ _ _ rfl
  · intro k d
    rw [load_rows arg4 harg4 x2 48 16 inb_meta k d (⟨48 + k.1, by omega⟩ : Fin 4160) rfl]
    exact hv _ _ _ rfl
  · intro k
    rw [load_bias arg6 harg6 x4 k]
    exact hm k
  · intro x d
    rw [load_rows arg2 harg2 x0 (64 * r.1 + 64) 64 (inb_row r) x d (⟨64 * r.1 + 64 + x.1, by omega⟩ : Fin 4160) rfl]
    exact hq _ _ _ (by simp only [seat]; omega)
  · intro j d
    rw [load_rows arg3 harg3 x1 (64 * first r.1 + 64) 512 (inb_win r) j d (⟨64 * first r.1 + 64 + j.1, by omega⟩ : Fin 4160) rfl]
    exact hk _ _ _ (window_row r j)
  · intro j d
    rw [load_rows arg4 harg4 x2 (64 * first r.1 + 64) 512 (inb_win r) j d (⟨64 * first r.1 + 64 + j.1, by omega⟩ : Fin 4160) rfl]
    exact hv _ _ _ (window_row r j)
  · intro i x l j hj
    have hl := l.2
    have hi := i.2
    have hr := r.2
    rw [load_tile arg5 harg5 x3 (first r.1 + 2 * i.1 + 7 - r.1) (inb_tab r i) x l (⟨first r.1 + 2 * i.1 + 7 - r.1, by unfold first; omega⟩ : Fin 14) rfl]
    exact ht _ x l (off r (wrow j)) (wcol j) (by simp only [off, wrow, first]; omega) (by simp only [wcol]; omega)

include hq hk hv hm in
/-- The store of the meta rows holds their output. -/
theorem piece_front (x : Fin 16) (d : Fin 128) :
    (metaPiece (F := Ideal) arg2 harg2 arg3 harg3 arg4 harg4 arg6 harg6 x0 x1 x2 x4).2 (ix3 (0 : Fin 1) x d) = front p mb b h x d := by
  unfold metaPiece
  dsimp only
  refine front_pay_apply p mb b h _ _ _ _ ?_ ?_ ?_ ?_ x d
  · intro k d
    rw [load_rows arg3 harg3 x1 48 16 inb_meta k d (⟨48 + k.1, by omega⟩ : Fin 4160) rfl]
    exact hk _ _ _ rfl
  · intro k d
    rw [load_rows arg4 harg4 x2 48 16 inb_meta k d (⟨48 + k.1, by omega⟩ : Fin 4160) rfl]
    exact hv _ _ _ rfl
  · intro k
    rw [load_bias arg6 harg6 x4 k]
    exact hm k
  · intro k d
    rw [load_rows arg2 harg2 x0 48 16 inb_meta k d (⟨48 + k.1, by omega⟩ : Fin 4160) rfl]
    exact hq _ _ _ rfl

/-- A position of a block of one batch entry. -/
theorem at_zero (n : ℕ) (x : (⟨3, ![1, n, 128]⟩ : Shape).Idx) : ∃ (k : Fin n) (d : Fin 128), x = ix3 (0 : Fin 1) k d :=
  ⟨x 1, x 2, funext fun a => match a with | ⟨0, _⟩ => Subsingleton.elim (α := Fin 1) _ _ | ⟨1, _⟩ => rfl | ⟨2, _⟩ => rfl⟩

/-- A store's rows land at its offset. -/
theorem lands (o n : ℕ) (inb : ∀ a, (![0, o, 0] : Fin 3 → ℕ) a + (![1, n, 128] : Fin 3 → ℕ) a ≤ S1x4160x128.size a) (k : Fin n) (d : Fin 128) (i : Fin 4160) (hi : i.1 = o + k.1) :
    (Rect.unit (s := S1x4160x128) ![0, o, 0] ![1, n, 128] inb).emb (ix3 (0 : Fin 1) k d) = ix3 (0 : Fin 1) i d := by
  funext a
  refine Fin.ext ((Rect.emb_apply ..).trans ?_)
  match a with
  | ⟨0, _⟩ => rfl
  | ⟨1, _⟩ => exact (congrArg (o + ·) (Nat.one_mul k.1)).trans hi.symm
  | ⟨2, _⟩ => exact (Nat.zero_add _).trans (Nat.one_mul d.1)

include hq hk hv ht hm in
/-- Every store holds its rows of the head's output. -/
theorem pieces (c : Dev nD) (i : grid0.Coords) (arg7 : Memref sig .tc .vmem S1x4160x128 .bf16) (harg7 : arg7.IsWhole) :
    ∀ pc ∈ (kernelRun0_A (F := Ideal) c i arg2 harg2 arg3 harg3 arg4 harg4 arg5 harg5 arg6 harg6 arg7 harg7 x0 x1 x2 x3 x4).1,
      ∀ x : pc.1.shape.Idx, pc.2 x = (fun y : S1x4160x128.Idx => row p rpb mb b h (y 1) (y 2)) (pc.1.emb x) := by
  rw [stores]
  intro pc hp
  rcases List.mem_append.mp hp with hp | hp
  · obtain ⟨r, _, rfl⟩ := List.mem_map.mp hp
    intro x
    obtain ⟨k, d, rfl⟩ := at_zero 64 x
    refine (piece_image p rpb mb b h arg2 harg2 arg3 harg3 arg4 harg4 arg5 harg5 arg6 harg6 x0 x1 x2 x3 x4 hq hk hv ht hm r k d).trans ?_
    refine Eq.trans ?_ (congrArg (fun y : S1x4160x128.Idx => row p rpb mb b h (y 1) (y 2)) (lands (64 * r.1 + 64) 64 (inb_row r) k d (⟨64 * r.1 + 64 + k.1, by omega⟩ : Fin 4160) rfl)).symm
    exact (row_image p rpb mb b h _ d r k rfl).symm
  · rcases List.mem_cons.mp hp with rfl | hp
    · intro x
      obtain ⟨k, d, rfl⟩ := at_zero 16 x
      refine (piece_front p mb b h arg2 harg2 arg3 harg3 arg4 harg4 arg6 harg6 x0 x1 x2 x4 hq hk hv hm k d).trans ?_
      refine Eq.trans ?_ (congrArg (fun y : S1x4160x128.Idx => row p rpb mb b h (y 1) (y 2)) (lands 48 16 inb_meta k d (⟨48 + k.1, by omega⟩ : Fin 4160) rfl)).symm
      exact (row_front p rpb mb b h _ d k rfl).symm
    · obtain rfl := List.mem_singleton.mp hp
      intro x
      obtain ⟨k, d, rfl⟩ := at_zero 48 x
      refine (pad_pay k d).trans ?_
      refine Eq.trans ?_ (congrArg (fun y : S1x4160x128.Idx => row p rpb mb b h (y 1) (y 2)) (lands 0 48 inb_pad k d (⟨0 + k.1, by omega⟩ : Fin 4160) rfl)).symm
      exact (row_pad p rpb mb b h _ d (by simp)).symm
end

variable (m : (ℓ : Loc nD τ sig) → Buf (Elt Ideal) ℓ) (c : Dev nD)

/-- What a grid point leaves in the result's block. -/
theorem outs (t : Fin cfg0.N) (y : S1x4160x128.Idx) : outsAt0 m c t y = row (m ((c : Thread nD τ).loc main_arg0)) (m ((c : Thread nD τ).loc main_arg1))
    (m ((c : Thread nD τ).loc main_arg2)) (entry t) (head t) (y 1) (y 2) := by
  have cover := cover0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t)
    (iblk m c 0 t) (iblk m c 1 t) (iblk m c 2 t) (iblk m c 3 t) (iblk m c 4 t)
  unfold outsAt0 out0_A_5
  rw [View.read_writes_eq_canon _ _ _ cover]
  exact View.canon_apply_of_pieces (S := S1x4160x128) (e := .bf16) (fun y => row (m ((c : Thread nD τ).loc main_arg0)) (m ((c : Thread nD τ).loc main_arg1))
    (m ((c : Thread nD τ).loc main_arg2)) (entry t) (head t) (y 1) (y 2)) _
    (pieces _ _ _ (entry t) (head t) _ _ _ _ _ _ _ _ _ _ _ _ _ _ _ (queries m c t) (keys m c t) (values m c t) (tables m c t) (leads m c t) c (grid0.coords t) _ _) y (cover y)

/-- The array after the run is the specification's result. -/
theorem array : (dats m 0 c).arrAt 5 cfg0.N = result (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  refine Eq.trans ?_ (congrArg (result _ _ _) (spot t y).symm)
  rw [after0_5]
  refine (outs m c t _).trans ?_
  have h2 : (y 2).val < 128 := (y 2).isLt
  refine congr (congr (congrArg (row _ _ _ _) (Fin.ext ?_)) rfl) (Fin.ext ?_)
  · simp only [ix3]
    omega
  · simp only [ix3]
    omega

end Cert.KernelIdeal.Attention
end
-- ==== Proof.RefReads.lean ====
module

public import proofs.«01_k».proof.Proof.Gen.ReferenceIdeal.Read
public import proofs.«01_k».proof.Proof.Spec
public import Idealize.ShloMosaic.Lib.Pointwise
public import Idealize.ShloMosaic.Lib.Pipeline.ValueKit

/-! The reference's heads, its three gathers and its index arrays, read at an index. -/

@[expose] public section
set_option maxRecDepth 16384
noncomputable section
namespace Cert.ReferenceIdeal.Attention
open Cert.ReferenceIdeal Cert.ReferenceIdeal.Gen Cert.ReferenceIdeal.Read Idealize.ShloMosaic Idealize.ShloMosaic.TcCoe Idealize.SL.Sem Cert.Proof.Neighbourhood

variable (p : Vec Ideal S2x4112x18432 .f32) (rpb : Vec Ideal S16x15x31 .f32) (mb : Vec Ideal S16x16 .f32)

theorem q_apply (b : Fin 2) (h : Fin 16) (r x : Fin 64) (d : Fin 128) : val_main_v13 (F := Ideal) p (ix5 b h r x d) = p (ix3 b (seat r x) (qcol h d)) := by
  unfold val_main_v13 val_main_v12 val_main_v4 val_main_v3 val_main_v0
  pointwise
  rfl
theorem k_apply (b : Fin 2) (h : Fin 16) (r x : Fin 64) (d : Fin 128) : val_main_v15 (F := Ideal) p (ix5 b h r x d) = p (ix3 b (seat r x) (kcol h d)) := by
  unfold val_main_v15 val_main_v14 val_main_v6 val_main_v5 val_main_v1
  pointwise
  rfl
theorem v_apply (b : Fin 2) (h : Fin 16) (r x : Fin 64) (d : Fin 128) : val_main_v17 (F := Ideal) p (ix5 b h r x d) = p (ix3 b (seat r x) (vcol h d)) := by
  unfold val_main_v17 val_main_v16 val_main_v8 val_main_v7 val_main_v2
  pointwise
  rfl
theorem qm_apply (b : Fin 2) (h : Fin 16) (x : Fin 16) (d : Fin 128) : val_main_v9 (F := Ideal) p (ix4 b h x d) = p (ix3 b (lead x) (qcol h d)) := by
  unfold val_main_v9 val_main_v4 val_main_v3 val_main_v0
  pointwise
  rfl
theorem km_apply (b : Fin 2) (h : Fin 16) (x : Fin 16) (d : Fin 128) : val_main_v10 (F := Ideal) p (ix4 b h x d) = p (ix3 b (lead x) (kcol h d)) := by
  unfold val_main_v10 val_main_v6 val_main_v5 val_main_v1
  pointwise
  rfl
theorem vm_apply (b : Fin 2) (h : Fin 16) (x : Fin 16) (d : Fin 128) : val_main_v11 (F := Ideal) p (ix4 b h x d) = p (ix3 b (lead x) (vcol h d)) := by
  unfold val_main_v11 val_main_v8 val_main_v7 val_main_v2
  pointwise
  rfl

/-- A gather of rows of the image: the operand's row that the index array names. -/
theorem gather_rows {α : Type} (x : S2x16x64x64x128.Idx → α) (idx : IVec S64x8x1 32) (b : Fin 2) (h : Fin 16) (r : Fin 64) (i : Fin 8) (y : Fin 64) (d : Fin 128)
    (n : Fin 64) (hn : (idx (ix3 r i (0 : Fin 1))).toInt = n.1) :
    Host.gather gather_S2x16x64x64x128_S64x8x1_S2x16x64x8x64x128_0145_2_n_n_2_2_216164128 x idx (ix6 b h r i y d) = x (ix5 b h n y d) := by
  unfold Host.gather
  congr 1
  funext a
  refine Fin.ext ?_
  match a with
  | ⟨0, _⟩ => exact (Nat.zero_add _).trans rfl
  | ⟨1, _⟩ => exact (Nat.zero_add _).trans rfl
  | ⟨2, _⟩ =>
    have hs : (gather_S2x16x64x64x128_S64x8x1_S2x16x64x8x64x128_0145_2_n_n_2_2_216164128).siIdx (ix6 b h r i y d) ⟨0, by decide⟩ = ix3 r i (0 : Fin 1) := by
      funext c; match c with | ⟨0, _⟩ => rfl | ⟨1, _⟩ => rfl | ⟨2, _⟩ => rfl
    have h0 : min (idx ((gather_S2x16x64x64x128_S64x8x1_S2x16x64x8x64x128_0145_2_n_n_2_2_216164128).siIdx (ix6 b h r i y d) ⟨0, by decide⟩)).toInt.toNat 63 = n.1 := by
      rw [hs, hn]; have := n.2; simp; omega
    exact h0
  | ⟨3, _⟩ => exact (Nat.zero_add _).trans rfl
  | ⟨4, _⟩ => exact (Nat.zero_add _).trans rfl

/-- The gather of the bias table's columns. -/
theorem gather_cols {α : Type} (x : S16x15x31.Idx → α) (idx : IVec S64x64x1 32) (h : Fin 16) (g : Fin 15) (u y : Fin 64)
    (n : Fin 31) (hn : (idx (ix3 u y (0 : Fin 1))).toInt = n.1) :
    Host.gather gather_S16x15x31_S64x64x1_S16x15x64x64_01_2_n_n_2_2_16151 x idx (ix4 h g u y) = x (ix3 h g n) := by
  unfold Host.gather
  congr 1
  funext a
  refine Fin.ext ?_
  match a with
  | ⟨0, _⟩ => exact (Nat.zero_add _).trans rfl
  | ⟨1, _⟩ => exact (Nat.zero_add _).trans rfl
  | ⟨2, _⟩ =>
    have hs : (gather_S16x15x31_S64x64x1_S16x15x64x64_01_2_n_n_2_2_16151).siIdx (ix4 h g u y) ⟨0, by decide⟩ = ix3 u y (0 : Fin 1) := by
      funext c; match c with | ⟨0, _⟩ => rfl | ⟨1, _⟩ => rfl | ⟨2, _⟩ => rfl
    have h0 : min (idx ((gather_S16x15x31_S64x64x1_S16x15x64x64_01_2_n_n_2_2_16151).siIdx (ix4 h g u y) ⟨0, by decide⟩)).toInt.toNat 30 = n.1 := by
      rw [hs, hn]; have := n.2; simp; omega
    exact h0

/-- The gather of the bias table's rows. -/
theorem gather_offs {α : Type} (x : S16x15x64x64.Idx → α) (idx : IVec S64x8x1 32) (h : Fin 16) (r : Fin 64) (i : Fin 8) (u y : Fin 64)
    (n : Fin 15) (hn : (idx (ix3 r i (0 : Fin 1))).toInt = n.1) :
    Host.gather gather_S16x15x64x64_S64x8x1_S16x64x8x64x64_034_1_n_n_1_2_1616464 x idx (ix5 h r i u y) = x (ix4 h n u y) := by
  unfold Host.gather
  congr 1
  funext a
  refine Fin.ext ?_
  match a with
  | ⟨0, _⟩ => exact (Nat.zero_add _).trans rfl
  | ⟨1, _⟩ =>
    have hs : (gather_S16x15x64x64_S64x8x1_S16x64x8x64x64_034_1_n_n_1_2_1616464).siIdx (ix5 h r i u y) ⟨0, by decide⟩ = ix3 r i (0 : Fin 1) := by
      funext c; match c with | ⟨0, _⟩ => rfl | ⟨1, _⟩ => rfl | ⟨2, _⟩ => rfl
    have h0 : min (idx ((gather_S16x15x64x64_S64x8x1_S16x64x8x64x64_034_1_n_n_1_2_1616464).siIdx (ix5 h r i u y) ⟨0, by decide⟩)).toInt.toNat 14 = n.1 := by
      rw [hs, hn]; have := n.2; simp; omega
    exact h0
  | ⟨2, _⟩ => exact (Nat.zero_add _).trans rfl
  | ⟨3, _⟩ => exact (Nat.zero_add _).trans rfl

/-- The index arrays hold the window's rows, the table's rows and the table's columns. -/
theorem win_idx : ∀ (r : Fin 64) (i : Fin 8), (val_main_v85 (F := Ideal) (ix3 r i (0 : Fin 1)) : BitVec 32).toInt = (win r i).1 := by decide +kernel
theorem win_idx' : ∀ (r : Fin 64) (i : Fin 8), (val_main_v92 (F := Ideal) (ix3 r i (0 : Fin 1)) : BitVec 32).toInt = (win r i).1 := by decide +kernel
theorem off_idx : ∀ (r : Fin 64) (i : Fin 8), (val_main_v109 (F := Ideal) (ix3 r i (0 : Fin 1)) : BitVec 32).toInt = (off r i).1 := by decide +kernel
theorem col_idx : ∀ (x y : Fin 64), (val_main_v68 (F := Ideal) (ix3 x y (0 : Fin 1)) : BitVec 32).toInt = (col x y).1 := by decide +kernel
/-- The mask holds where the key column is near. -/
theorem near_idx : ∀ (x y : Fin 64), (val_main_v52 (F := Ideal) (ix2 x y) : BitVec 1) = BitVec.ofBool (decide (near x y)) := by decide +kernel

/-- The gathered keys, values and biases. -/
theorem kw_apply (b : Fin 2) (h : Fin 16) (r : Fin 64) (i : Fin 8) (y : Fin 64) (d : Fin 128) :
    val_main_v86 (F := Ideal) p (ix6 b h r i y d) = p (ix3 b (seat (win r i) y) (kcol h d)) := by
  unfold val_main_v86
  exact (gather_rows _ _ b h r i y d (win r i) (win_idx r i)).trans (k_apply p b h _ y d)
theorem vw_apply (b : Fin 2) (h : Fin 16) (r : Fin 64) (i : Fin 8) (y : Fin 64) (d : Fin 128) :
    val_main_v93 (F := Ideal) p (ix6 b h r i y d) = p (ix3 b (seat (win r i) y) (vcol h d)) := by
  unfold val_main_v93
  exact (gather_rows _ _ b h r i y d (win r i) (win_idx' r i)).trans (v_apply p b h _ y d)
theorem bias_apply (h : Fin 16) (r : Fin 64) (i : Fin 8) (x y : Fin 64) :
    val_main_v110 (F := Ideal) rpb (ix5 h r i x y) = rpb (ix3 h (off r i) (col x y)) := by
  unfold val_main_v110 val_main_v69
  exact (gather_offs _ _ h r i x y (off r i) (off_idx r i)).trans (gather_cols _ _ h _ x y (col x y) (col_idx x y))

end Cert.ReferenceIdeal.Attention
end
-- ==== Proof.RefScores.lean ====
module

public import proofs.«01_k».proof.Proof.RefReads

/-! The reference's scores, its weights and its output are the specification's. -/

@[expose] public section
set_option maxRecDepth 16384
noncomputable section
namespace Cert.ReferenceIdeal.Attention
open Cert.ReferenceIdeal Cert.ReferenceIdeal.Gen Cert.ReferenceIdeal.Read Idealize.ShloMosaic Idealize.ShloMosaic.TcCoe Idealize.SL.Sem Cert.Proof.Neighbourhood Cert.Proof.Softmax

variable (p : Vec Ideal S2x4112x18432 .f32) (rpb : Vec Ideal S16x15x31 .f32) (mb : Vec Ideal S16x16 .f32)

/-- The meta tokens' scores against each other. -/
theorem front_scores (b : Fin 2) (h : Fin 16) (x k : Fin 16) : val_main_v23 (F := Ideal) p mb (ix4 b h x k) = leadScore p mb b h (lead x) k := by
  unfold val_main_v23 val_main_v22 val_main_v21 val_main_v20 val_main_v19 val_main_v18 val_main_cst
  pointwise [dot_S2x16x16x128_S2x16x16x128_S2x16x16x16_3_3_2_2_01_01]
  simp only [qm_apply, km_apply]
  rfl

/-- The meta tokens' output. -/
theorem front_apply (H : Finite p rpb mb) (b : Fin 2) (h : Fin 16) (x : Fin 16) (d : Fin 128) :
    val_main_v35 (F := Ideal) p mb (ix4 b h x d) = front p mb b h x d := by
  unfold val_main_v35 val_main_v34 val_main_v33 val_main_v32 val_main_v31 val_main_v30 val_main_v29 val_main_v28 val_main_v27 val_main_v26 val_main_v25 val_main_v24
    val_main_cst_0 val_main_cst_1 val_main_cst_2
  pointwise [dot_S2x16x16x16_S2x16x16x128_S2x16x16x128_3_2_2_3_01_01]
  simp only [front_scores, vm_apply, max_low]
  exact mean_eq (leadScore p mb b h (lead x)) _ (fun k => (H.lead b h _ k).ne_top) 0 (H.lead b h _ 0)

/-- The image's scores against the meta tokens. -/
theorem lead_scores (b : Fin 2) (h : Fin 16) (r x : Fin 64) (k : Fin 16) : val_main_v122 (F := Ideal) p mb (ix5 b h r x k) = leadScore p mb b h (seat r x) k := by
  unfold val_main_v122 val_main_v121 val_main_v120 val_main_v119 val_main_v118 val_main_v117 val_main_v18 val_main_cst_25
  pointwise [dot_S2x16x64x64x128_S2x16x16x128_S2x16x64x64x16_4_3_23_2_01_01]
  simp only [q_apply, km_apply]
  rfl

/-- A choice by a decision's bit. -/
theorem select_decide {P : Prop} [Decidable P] (a c : EReal) : Scalar.select (BitVec.ofBool (decide P)) a c = if P then a else c := by
  by_cases h : P <;> simp [h, Scalar.select]

/-- The image's scores within the window. -/
theorem win_scores (b : Fin 2) (h : Fin 16) (r x : Fin 64) (i : Fin 8) (y : Fin 64) :
    val_main_v116 (F := Ideal) p rpb (ix6 b h r x i y) = winScore p rpb b h r x i y := by
  unfold val_main_v116 val_main_v115 val_main_v114 val_main_v113 val_main_v111 val_main_v96 val_main_v95 val_main_v94 val_main_cst_19
     val_main_call3_v2 val_main_call3_v0 val_main_cst_24 val_main_call3_v1 val_main_v112
  pointwise [dot_S2x16x64x64x128_S2x16x64x8x64x128_S2x16x64x64x8x64_4_5_3_34_012_012]
  simp only [q_apply, kw_apply, bias_apply]
  rw [near_idx]
  exact select_decide _ _

/-- The joined row of scores: the meta tokens' first. -/
theorem joined_lead (b : Fin 2) (h : Fin 16) (r x : Fin 64) (k : Fin 16) :
    val_main_v124 (F := Ideal) p rpb mb (ix5 b h r x (⟨k.1, by omega⟩ : Fin 528)) = leadScore p mb b h (seat r x) k := by
  rw [← lead_scores]
  unfold val_main_v124
  pointwise

/-- The window's behind them. -/
theorem joined_win (b : Fin 2) (h : Fin 16) (r x : Fin 64) (j : Fin 512) :
    val_main_v124 (F := Ideal) p rpb mb (ix5 b h r x (⟨16 + j.1, by omega⟩ : Fin 528)) = winScore p rpb b h r x (wrow j) (wcol j) := by
  rw [← win_scores]
  unfold val_main_v124 val_main_v123
  pointwise
  rfl

/-- The largest score of a query. -/
theorem largest (b : Fin 2) (h : Fin 16) (r x : Fin 64) :
    val_main_v125 (F := Ideal) p rpb mb (ix4 b h r x) = top fun j => val_main_v124 (F := Ideal) p rpb mb (ix5 b h r x j) := by
  unfold val_main_v125 val_main_cst_26
  generalize val_main_v124 (F := Ideal) p rpb mb = u
  pointwise
  rfl

/-- A score's exponential. -/
theorem exponential (b : Fin 2) (h : Fin 16) (r x : Fin 64) (j : Fin 528) :
    val_main_v131 (F := Ideal) p rpb mb (ix5 b h r x j)
      = Ideal.exp (val_main_v124 (F := Ideal) p rpb mb (ix5 b h r x j) - max low (val_main_v125 (F := Ideal) p rpb mb (ix4 b h r x))) := by
  have e : idx_main_v128 (idx_main_v129 (ix5 b h r x j)) = ix4 b h r x := by
    funext a; match a with | ⟨0, _⟩ => rfl | ⟨1, _⟩ => rfl | ⟨2, _⟩ => rfl | ⟨3, _⟩ => rfl
  rw [val_main_v131_apply, val_main_v130_apply, val_main_v129_apply, val_main_v128_apply, e, val_main_v127_apply, val_main_v126_apply, val_main_cst_27_apply]
  generalize val_main_v124 (F := Ideal) p rpb mb (ix5 b h r x j) = u
  generalize val_main_v125 (F := Ideal) p rpb mb (ix4 b h r x) = v
  rfl

/-- The sum of the exponentials. -/
theorem denominator (b : Fin 2) (h : Fin 16) (r x : Fin 64) :
    val_main_v132 (F := Ideal) p rpb mb (ix4 b h r x) = ∑ j : Fin 528, val_main_v131 (F := Ideal) p rpb mb (ix5 b h r x j) := by
  unfold val_main_v132 val_main_cst_28
  generalize val_main_v131 (F := Ideal) p rpb mb = u
  pointwise

/-- A weight is the quotient of the two. -/
theorem quotient (b : Fin 2) (h : Fin 16) (r x : Fin 64) (j : Fin 528) :
    val_main_v135 (F := Ideal) p rpb mb (ix5 b h r x j)
      = Ideal.div (val_main_v131 (F := Ideal) p rpb mb (ix5 b h r x j)) (val_main_v132 (F := Ideal) p rpb mb (ix4 b h r x)) := by
  have e : idx_main_v133 (idx_main_v134 (ix5 b h r x j)) = ix4 b h r x := by
    funext a; match a with | ⟨0, _⟩ => rfl | ⟨1, _⟩ => rfl | ⟨2, _⟩ => rfl | ⟨3, _⟩ => rfl
  rw [val_main_v135_apply, val_main_v134_apply, val_main_v133_apply, e]
  generalize val_main_v131 (F := Ideal) p rpb mb (ix5 b h r x j) = u
  generalize val_main_v132 (F := Ideal) p rpb mb (ix4 b h r x) = v
  rfl

/-- The weights. -/
theorem weight (b : Fin 2) (h : Fin 16) (r x : Fin 64) (j : Fin 528) :
    val_main_v135 (F := Ideal) p rpb mb (ix5 b h r x j)
      = Ideal.div (Ideal.exp (val_main_v124 (F := Ideal) p rpb mb (ix5 b h r x j) - top fun j => val_main_v124 (F := Ideal) p rpb mb (ix5 b h r x j)))
        (∑ i : Fin 528, Ideal.exp (val_main_v124 (F := Ideal) p rpb mb (ix5 b h r x i) - top fun j => val_main_v124 (F := Ideal) p rpb mb (ix5 b h r x j))) := by
  rw [quotient, denominator]
  simp only [exponential, max_low, largest]

theorem weight_lead (b : Fin 2) (h : Fin 16) (r x : Fin 64) (k : Fin 16) :
    val_main_v138 (F := Ideal) p rpb mb (ix5 b h r x k) = val_main_v135 (F := Ideal) p rpb mb (ix5 b h r x (⟨k.1, by omega⟩ : Fin 528)) := by
  unfold val_main_v138
  generalize val_main_v135 (F := Ideal) p rpb mb = u
  pointwise

theorem weight_win (b : Fin 2) (h : Fin 16) (r x : Fin 64) (i : Fin 8) (y : Fin 64) :
    val_main_v137 (F := Ideal) p rpb mb (ix6 b h r x i y) = val_main_v135 (F := Ideal) p rpb mb (ix5 b h r x (⟨16 + (i.1 * 64 + y.1), by omega⟩ : Fin 528)) := by
  unfold val_main_v137 val_main_v136
  generalize val_main_v135 (F := Ideal) p rpb mb = u
  pointwise

/-- The weighted values of the window. -/
theorem win_values (u : FVec Ideal S2x16x64x64x8x64 .f32) (w : FVec Ideal S2x16x64x8x64x128 .f32) (b : Fin 2) (h : Fin 16) (r x : Fin 64) (d : Fin 128) :
    Host.dotGeneral dot_S2x16x64x64x8x64_S2x16x64x8x64x128_S2x16x64x64x128_45_34_3_5_012_012 none u w (ix5 b h r x d)
      = ∑ i : Fin 8, ∑ y : Fin 64, u (ix6 b h r x i y) * w (ix6 b h r i y d) := by
  pointwise [dot_S2x16x64x64x8x64_S2x16x64x8x64x128_S2x16x64x64x128_45_34_3_5_012_012]

theorem lead_values (u : FVec Ideal S2x16x64x64x16 .f32) (w : FVec Ideal S2x16x16x128 .f32) (b : Fin 2) (h : Fin 16) (r x : Fin 64) (d : Fin 128) :
    Host.dotGeneral dot_S2x16x64x64x16_S2x16x16x128_S2x16x64x64x128_4_2_23_3_01_01 none u w (ix5 b h r x d)
      = ∑ k : Fin 16, u (ix5 b h r x k) * w (ix4 b h k d) := by
  pointwise [dot_S2x16x64x64x16_S2x16x16x128_S2x16x64x64x128_4_2_23_3_01_01]

/-- The image's output. -/
theorem image_apply (H : Finite p rpb mb) (b : Fin 2) (h : Fin 16) (r x : Fin 64) (d : Fin 128) :
    val_main_v141 (F := Ideal) p rpb mb (ix5 b h r x d) = image p rpb mb b h r x d := by
  have e : val_main_v141 (F := Ideal) p rpb mb (ix5 b h r x d)
      = (∑ k : Fin 16, val_main_v138 (F := Ideal) p rpb mb (ix5 b h r x k) * val_main_v11 (F := Ideal) p (ix4 b h k d) : EReal)
        + ∑ i : Fin 8, ∑ y : Fin 64, val_main_v137 (F := Ideal) p rpb mb (ix6 b h r x i y) * val_main_v93 (F := Ideal) p (ix6 b h r i y d) := by
    unfold val_main_v141 val_main_v140 val_main_v139
    rw [← win_values, ← lead_values]; rfl
  rw [e]
  simp only [weight_lead, weight_win, vm_apply, vw_apply]
  refine mean₂_eq (a := 8) (b := 64) (k := 16) (n := 512) (N := 528) rfl rfl (fun j => val_main_v124 (F := Ideal) p rpb mb (ix5 b h r x j)) _ _ _ _
    (joined_lead p rpb mb b h r x) (joined_win p rpb mb b h r x) (fun j => H.win b h r x _ _) (fun k => (H.lead b h _ k).ne_top) 0 (H.lead b h _ 0)
    (fun i y => p (ix3 b (seat (win r i) y) (vcol h d))) (fun i y => by omega) (fun i y => ?_) (fun j => val_main_v135 (F := Ideal) p rpb mb (ix5 b h r x j)) (weight p rpb mb b h r x)
  have h1 : wrow ⟨i.1 * 64 + y.1, by omega⟩ = i := Fin.ext (by show (i.1 * 64 + y.1) / 64 = i.1; omega)
  have h2 : wcol ⟨i.1 * 64 + y.1, by omega⟩ = y := Fin.ext (by show (i.1 * 64 + y.1) % 64 = y.1; omega)
  rw [h1, h2]

/-- The reference's result. -/
theorem result_apply (H : Finite p rpb mb) : val_main_v147 (F := Ideal) p rpb mb = result p rpb mb := by
  funext i
  have e : val_main_v147 (F := Ideal) p rpb mb i = if h : 48 ≤ (i 1).1 ∧ (i 1).1 - 48 < 4112 then
      if h_1 : (i 1).1 - 48 < 16 then val_main_v35 (F := Ideal) p mb (ix4 (i 0) (⟨(i 2).1 / 128, by have : (i 2).1 < 2048 := (i 2).2; omega⟩ : Fin 16) (⟨(i 1).1 - 48, h_1⟩ : Fin 16) (⟨(i 2).1 % 128, by omega⟩ : Fin 128))
      else val_main_v141 (F := Ideal) p rpb mb (ix5 (i 0) (⟨(i 2).1 / 128, by have : (i 2).1 < 2048 := (i 2).2; omega⟩ : Fin 16) (⟨((i 1).1 - 48 - 16) / 64, by omega⟩ : Fin 64)
        (⟨((i 1).1 - 48 - 16) % 64, by omega⟩ : Fin 64) (⟨(i 2).1 % 128, by omega⟩ : Fin 128))
    else (FloatOps.sitofp (F := Ideal) FTy.f32 0#32) := by
    unfold val_main_v147 val_main_v146 val_main_v145 val_main_v144 val_main_v143 val_main_v142 val_main_call4_v0 val_main_c_29
    pointwise
  have hz : FloatOps.sitofp (F := Ideal) FTy.f32 0#32 = (0 : EReal) := by simp [FloatOps.sitofp]
  rw [e, hz]
  unfold result row
  have h1 : (i 1).1 < 4160 := (i 1).2
  by_cases h48 : (i 1).1 < 48
  · rw [dif_neg (by omega), dif_pos h48]
  · rw [dif_pos (by omega), dif_neg h48]
    by_cases h64 : (i 1).1 < 64
    · rw [dif_pos (by omega), dif_pos h64]
      exact front_apply p rpb mb H _ _ _ _
    · rw [dif_neg (by omega), dif_neg h64]
      have e : (i 1).1 - 48 - 16 = (i 1).1 - 64 := by omega
      refine (image_apply p rpb mb H _ _ _ _ _).trans ?_
      simp only [e]

end Cert.ReferenceIdeal.Attention
end
-- ==== Proof.Attention.lean ====
module

public import proofs.«01_k».proof.Proof.Stores
public import proofs.«01_k».proof.Proof.RefScores
public import proofs.«01_k».proof.Proof.Gen.Pre_finite_scores
public import proofs.«01_k».proof.Defs

/-! The attention: where the queries, the keys and the biases are finite, kernel and reference compute the same output. -/

@[expose] public section
set_option maxRecDepth 16384
noncomputable section
namespace Cert.Proof.Attention
open Idealize.ShloMosaic Idealize.ShloMosaic.TcCoe Idealize.SL.Sem Cert.Proof.Neighbourhood Cert.Proof.Softmax

/-- A one-bit truth value is one exactly where it holds. -/
theorem true_of_bit (b : Bool) (h : BitVec.ofBool b = 1#1) : b = true := by
  cases b
  · exact absurd h (by decide)
  · rfl

/-- A number whose absolute value lies below infinity is real. -/
theorem real_of_below (x : EReal) (h : Ideal.cmp .olt (max x (-x)) (Ideal.ofBits .f32 0x7F800000#32) = 1#1) : IsReal x := by
  have hb : Ideal.ofBits .f32 0x7F800000#32 = ⊤ := by simp [Ideal.ofBits, Ideal.ieee]
  rw [hb] at h
  have hlt : max x (-x) < ⊤ := of_decide_eq_true (true_of_bit _ h)
  induction x with
  | bot => simp at hlt
  | top => simp at hlt
  | coe r => exact ⟨r, rfl⟩

/-- What the precondition says of the three arguments. -/
theorem finite (p : Vec Ideal Cert.KernelIdeal.S2x4112x18432 .f32) (rpb : Vec Ideal Cert.KernelIdeal.S16x15x31 .f32) (mb : Vec Ideal Cert.KernelIdeal.S16x16 .f32)
    (h : (Cert.Pre_finite_scores.fn (F := Ideal) p rpb mb).1 = (fun _ => 1#1) ∧ (Cert.Pre_finite_scores.fn (F := Ideal) p rpb mb).2.1 = (fun _ => 1#1)
      ∧ (Cert.Pre_finite_scores.fn (F := Ideal) p rpb mb).2.2 = (fun _ => 1#1)) : Finite p rpb mb := by
  obtain ⟨h1, h2, h3⟩ := h
  have front (b : Fin 2) (n : Fin 4112) (j : Fin 18432) (hj : j.1 < 4096) : IsReal (p (ix3 b n j)) := by
    have e := congrFun h1 (ix3 b n (⟨j.1, hj⟩ : Fin 4096))
    refine real_of_below _ (Eq.trans ?_ e)
    refine congrArg (fun x : EReal => Ideal.cmp .olt (max x (-x)) (Ideal.ofBits .f32 0x7F800000#32)) (congrArg p ?_)
    funext a
    match a with
    | ⟨0, _⟩ => exact Fin.ext (Nat.zero_add _).symm
    | ⟨1, _⟩ => exact Fin.ext (Nat.zero_add _).symm
    | ⟨2, _⟩ => exact Fin.ext (Nat.zero_add _).symm
  refine ⟨fun b n h d => front b n _ ?_, fun b n h d => front b n _ ?_, fun i => real_of_below _ (congrFun h2 i), fun i => real_of_below _ (congrFun h3 i)⟩
  · simp only [qcol]
    omega
  · simp only [kcol]
    omega

/-- Kernel and reference compute the same attention. -/
theorem algebraic : Cert.algebraic_KernelIdeal_ReferenceIdeal_pre_finite_scores := by
  pair_intro
  · run_from Cert.KernelIdeal.Value.run_blocks m g
  · run_from Cert.ReferenceIdeal.Value.run m' g'
    obtain ⟨h0, h1, h2⟩ := hagree c
    refine (Cert.ReferenceIdeal.Read.val_main_v147_eq (F := Ideal) (StableHlo.launchContents m' c)).trans ?_
    refine (congr (congr (congrArg (Cert.ReferenceIdeal.Read.val_main_v147 (F := Ideal)) h0) h1) h2).trans ?_
    exact (Cert.ReferenceIdeal.Attention.result_apply _ _ _ (finite _ _ _ (hpre c))).trans (Cert.KernelIdeal.Attention.array m c).symm

end Cert.Proof.Attention
end
-- ==== Proof.lean ====
module

public import proofs.«01_k».proof.Defs
public import proofs.«01_k».proof.Proof.Frames
public import proofs.«01_k».proof.Proof.EvenIn
public import proofs.«01_k».proof.Proof.OddIn
public import proofs.«01_k».proof.Proof.OutProj
public import proofs.«01_k».proof.Proof.Final
public import proofs.«01_k».proof.Proof.Attention
public import proofs.«01_k».proof.Proof.Gen.Pre_finite_scores
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Kernel3Ideal
public import proofs.«01_k».proof.Proof.Gen.Reference3Ideal
public import proofs.«01_k».proof.Proof.Gen.Kernel4
public import proofs.«01_k».proof.Proof.Gen.Kernel4Ideal
public import proofs.«01_k».proof.Proof.Gen.Reference4Ideal
public import proofs.«01_k».proof.Proof.Gen.Kernel5
public import proofs.«01_k».proof.Proof.Gen.Kernel5Ideal
public import proofs.«01_k».proof.Proof.Gen.Reference5Ideal
public import Idealize.ShloMosaic.Adequacy
public import Idealize.ShloMosaic.Init

@[expose] public section

noncomputable section

namespace Cert.Proof

open Idealize.ShloMosaic Idealize.SL.Sem

/-- Everything that is claimed of the five calls. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Pre_finite_scores.Gen.facts,
    Frames.attention_kernel,
    Frames.attention_ideal,
    fun m ρ _ => Frames.attention_ideal m ρ trivial,
    Frames.attention_reference,
    fun m ρ _ => Frames.attention_reference m ρ trivial,
    Frames.evenIn_kernel,
    Frames.evenIn_ideal,
    Frames.evenIn_reference,
    Frames.oddIn_kernel,
    Frames.oddIn_ideal,
    Frames.oddIn_reference,
    Frames.outProj_kernel,
    Frames.outProj_ideal,
    Frames.outProj_reference,
    Frames.final_kernel,
    Frames.final_ideal,
    Frames.final_reference,
    trivial,
    Cert.Proof.Attention.algebraic,
    trivial,
    Product2.algebraic,
    trivial,
    Product3.algebraic,
    trivial,
    Product4.algebraic,
    trivial,
    Cert.Kernel5Ideal.Norm.algebraic⟩

end Cert.Proof

end
